-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x3 : Shape := ⟨2, ![50000, 3]⟩
abbrev S3x50000 : Shape := ⟨2, ![3, 50000]⟩
abbrev S_ : Shape := ⟨0, ![]⟩
abbrev S3x50176 : Shape := ⟨2, ![3, 50176]⟩
abbrev S1176x128 : Shape := ⟨2, ![1176, 128]⟩
abbrev S8192x128 : Shape := ⟨2, ![8192, 128]⟩
abbrev S392x128 : Shape := ⟨2, ![392, 128]⟩
abbrev S8x128 : Shape := ⟨2, ![8, 128]⟩
abbrev S1x128 : Shape := ⟨2, ![1, 128]⟩
abbrev S1 : Shape := ⟨1, ![1]⟩
abbrev S1x1 : Shape := ⟨2, ![1, 1]⟩
abbrev S128 : Shape := ⟨1, ![128]⟩
abbrev S8192x3 : Shape := ⟨2, ![8192, 3]⟩

abbrev nBuf : Space → Nat
  | .hbm => 8
  | .vmem => 3
  | .smem => 0
  | _ => 0

abbrev bufTy : (tb : Table) → Fin (tcTables nBuf tb) → BufTy
  | .hbm, ⟨0, _⟩ => ⟨S50000x3, .f32⟩
  | .hbm, ⟨1, _⟩ => ⟨S3x50000, .f32⟩
  | .hbm, ⟨2, _⟩ => ⟨S_, .i32⟩
  | .hbm, ⟨3, _⟩ => ⟨S_, .f32⟩
  | .hbm, ⟨4, _⟩ => ⟨S3x50176, .f32⟩
  | .hbm, ⟨5, _⟩ => ⟨S1176x128, .f32⟩
  | .hbm, ⟨6, _⟩ => ⟨S8192x128, .f32⟩
  | .hbm, ⟨7, _⟩ => ⟨S8192x3, .f32⟩
  | .local _ .vmem, ⟨0, _⟩ => ⟨S1176x128, .f32⟩
  | .local _ .vmem, ⟨1, _⟩ => ⟨S8192x128, .f32⟩
  | .local _ .vmem, ⟨2, _⟩ => ⟨S392x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c1_i32_16 : BitVec 32 := 1#32
  let c8191_i32 : BitVec 32 := 8191#32
  let v53 : BitVec 32 := Scalar.addi c1_i32_16 c8191_i32
  let c1_i32_17 : BitVec 32 := 1#32
  ⟨c1_i32_16, v53, c1_i32_17⟩
def k0_off1 (k0_t1 : Fin k0_t1_loop.trips) : Fin 2 → Nat :=
  let c1_i32_16 : BitVec 32 := 1#32
  let c1_i32_17 : BitVec 32 := 1#32
  let arg3 : BitVec 32 := Scf.iv c1_i32_16 c1_i32_17 k0_t1
  let v1816 : Index := Scalar.indexCast arg3
  let c0_592 : Index := 0#32
  ![v1816.toNat, 0]
abbrev stage0_0 : Fin 1 → Memref sig .tc .vmem S1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S50000x3 : Shape := ⟨2, ![50000, 3]⟩
abbrev S_ : Shape := ⟨0, ![]⟩
abbrev S50000 : Shape := ⟨1, ![50000]⟩
abbrev S8192 : Shape := ⟨1, ![8192]⟩
abbrev S1 : Shape := ⟨1, ![1]⟩
abbrev S1x3 : Shape := ⟨2, ![1, 3]⟩
abbrev S3 : Shape := ⟨1, ![3]⟩
abbrev S8192x1 : Shape := ⟨2, ![8192, 1]⟩
abbrev S8192x3 : Shape := ⟨2, ![8192, 3]⟩

abbrev nBuf : Space → Nat
  | .hbm => 68
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S_, .f32⟩
  | .hbm, ⟨2, _⟩ => ⟨S50000, .f32⟩
  | .hbm, ⟨3, _⟩ => ⟨S_, .i32⟩
  | .hbm, ⟨4, _⟩ => ⟨S8192, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S50000x3, .f32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S50000, .f32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x3, .f32⟩
  | .hbm, ⟨36, _⟩ => ⟨S3, .f32⟩
  | .hbm, ⟨37, _⟩ => ⟨S1x3, .f32⟩
  | .hbm, ⟨38, _⟩ => ⟨S50000x3, .f32⟩
  | .hbm, ⟨39, _⟩ => ⟨S50000x3, .f32⟩
  | .hbm, ⟨40, _⟩ => ⟨S50000x3, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000, .i32⟩
  | .hbm, ⟨45, _⟩ => ⟨S_, .f32⟩
  | .hbm, ⟨46, _⟩ => ⟨S_, .i32⟩
  | .hbm, ⟨47, _⟩ => ⟨S_, .f32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1, .i32⟩
  | .hbm, ⟨56, _⟩ => ⟨S8192, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x3, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_while0c_c_12 : Ref sig .tc := ⟨.hbm, 18, rfl⟩
abbrev main_while0c_v12 : Ref sig .tc := ⟨.hbm, 19, rfl⟩
abbrev main_while0b_c_12 : Ref sig .tc := ⟨.hbm, 20, rfl⟩
abbrev main_while0b_v12 : Ref sig .tc := ⟨.hbm, 21, rfl⟩
abbrev main_while0b_c_13 : Ref sig .tc := ⟨.hbm, 22, rfl⟩
abbrev main_while0b_v13 : Ref sig .tc := ⟨.hbm, 23, rfl⟩
abbrev main_while0b_c_14 : Ref sig .tc := ⟨.hbm, 24, rfl⟩
abbrev main_while0b_v14 : Ref sig .tc := ⟨.hbm, 25, rfl⟩
abbrev main_while0b_v15 : Ref sig .tc := ⟨.hbm, 26, rfl⟩
abbrev main_while0b_c_15 : Ref sig .tc := ⟨.hbm, 27, rfl⟩
abbrev main_while0b_c_16 : Ref sig .tc := ⟨.hbm, 28, rfl⟩
abbrev main_while0b_v16 : Ref sig .tc := ⟨.hbm, 29, rfl⟩
abbrev main_while0b_c_17 : Ref sig .tc := ⟨.hbm, 30, rfl⟩
abbrev main_while0b_c_18 : Ref sig .tc := ⟨.hbm, 31, rfl⟩
abbrev main_while0b_v17 : Ref sig .tc := ⟨.hbm, 32, rfl⟩
abbrev main_while0b_c_19 : Ref sig .tc := ⟨.hbm, 33, rfl⟩
abbrev main_while0b_v18 : Ref sig .tc := ⟨.hbm, 34, rfl⟩
abbrev main_while0b_v19 : Ref sig .tc := ⟨.hbm, 35, rfl⟩
abbrev main_while0b_v20 : Ref sig .tc := ⟨.hbm, 36, rfl⟩
abbrev main_while0b_v21 : Ref sig .tc := ⟨.hbm, 37, rfl⟩
abbrev main_while0b_v22 : Ref sig .tc := ⟨.hbm, 38, rfl⟩
abbrev main_while0b_v23 : Ref sig .tc := ⟨.hbm, 39, rfl⟩
abbrev main_while0b_v24 : Ref sig .tc := ⟨.hbm, 40, rfl⟩
abbrev main_while0b_cst_20 : Ref sig .tc := ⟨.hbm, 41, rfl⟩
abbrev main_while0b_v25 : Ref sig .tc := ⟨.hbm, 42, rfl⟩
abbrev main_while0b_v26 : Ref sig .tc := ⟨.hbm, 43, rfl⟩
abbrev main_while0b_call0_v0 : Ref sig .tc := ⟨.hbm, 44, rfl⟩
abbrev main_while0b_call0_cst : Ref sig .tc := ⟨.hbm, 45, rfl⟩
abbrev main_while0b_call0_c : Ref sig .tc := ⟨.hbm, 46, rfl⟩
abbrev main_while0b_call0_v1_0 : Ref sig .tc := ⟨.hbm, 47, rfl⟩
abbrev main_while0b_v27 : Ref sig .tc := ⟨.hbm, 48, rfl⟩
abbrev main_while0b_c_21 : Ref sig .tc := ⟨.hbm, 49, rfl⟩
abbrev main_while0b_v28 : Ref sig .tc := ⟨.hbm, 50, rfl⟩
abbrev main_while0b_c_22 : Ref sig .tc := ⟨.hbm, 51, rfl⟩
abbrev main_while0b_v29 : Ref sig .tc := ⟨.hbm, 52, rfl⟩
abbrev main_while0b_v30 : Ref sig .tc := ⟨.hbm, 53, rfl⟩
abbrev main_while0b_v31 : Ref sig .tc := ⟨.hbm, 54, rfl⟩
abbrev main_while0b_v32 : Ref sig .tc := ⟨.hbm, 55, rfl⟩
abbrev main_while0b_v33 : Ref sig .tc := ⟨.hbm, 56, rfl⟩
abbrev main_while0b_c_23 : Ref sig .tc := ⟨.hbm, 57, rfl⟩
abbrev main_while0b_v34 : Ref sig .tc := ⟨.hbm, 58, rfl⟩
abbrev main_c_5 : Ref sig .tc := ⟨.hbm, 59, rfl⟩
abbrev main_v5 : Ref sig .tc := ⟨.hbm, 60, rfl⟩
abbrev main_v6 : Ref sig .tc := ⟨.hbm, 61, rfl⟩
abbrev main_c_6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩

abbrev nD : Nat := 1
abbrev τ : Topo := Topo.v7x

variable {F : FTy → Type} [FloatOps F]

abbrev main_while0_count : Scf.Loop 32 := ⟨0#32, 8191#32, 1#32⟩
-- ==== Proof.Trip.lean ====
/-
  ONE TRIP of the farthest-point kernel as a program of its BLOCKS.

  The printed trip is one straight line of some 2500 statements: 49 blocks of eight rows are gone through three
  times (the running minimum with its running maximum; the count of the maximum; on a tie, the smallest index and
  the coordinates there). Here each of these passes is one recursion over the block number, with the block's own
  operations written once, so that a proof treats a block once, at a symbolic number. The definitions are over any
  signature and any reading of the floats: the kernel and its idealization are both instances.
-/
module

public import proofs.«01_k».proof.Proof.Gen.KernelIdeal

@[expose] public section

noncomputable section

namespace Cert.Fps

open Idealize.ShloMosaic Idealize.ShloMosaic.TcCoe
open Idealize.SL.Sem
open Cert.KernelIdeal (S8x128 S1176x128 S8192x128 S392x128 S1x128 S1x1 S1 S128)
open Cert.KernelIdeal.Facts₀

variable {F : FTy → Type} [FloatOps F]

/-! ## The pure operations of a block -/

/-- Block `b`'s eight rows inside the 392 rows of the running minimum; -/
theorem inbD {b : ℕ} (h : b < 49) : ∀ a, (![8 * b, 0] : Fin 2 → Nat) a + S8x128.size a ≤ S392x128.size a := by
  intro a; match a with
  | 0 => show 8 * b + 8 ≤ 392; omega
  | 1 => exact Nat.le_refl 128

/-- and inside plane `o` (0, 392, 784: the three coordinates) of the stacked points. -/
theorem inbX {b : ℕ} (h : b < 49) {o : ℕ} (ho : o ≤ 784) :
    ∀ a, (![o + 8 * b, 0] : Fin 2 → Nat) a + S8x128.size a ≤ S1176x128.size a := by
  intro a; match a with
  | 0 => show o + 8 * b + 8 ≤ 1176; omega
  | 1 => exact Nat.le_refl 128

/-- The rectangle of block `b` in the running minimum, -/
abbrev rD (b : ℕ) (h : b < 49) : Rect S392x128 := Rect.unit (s := S392x128) ![8 * b, 0] S8x128.size (inbD h)
/-- and in plane `o` of the points. -/
abbrev rX (o : ℕ) (ho : o ≤ 784) (b : ℕ) (h : b < 49) : Rect S1176x128 :=
  Rect.unit (s := S1176x128) ![o + 8 * b, 0] S8x128.size (inbX h ho)

/-- The carried point: its three coordinates. -/
abbrev Pt (F : FTy → Type) : Type := FVec F S1x1 .f32 × FVec F S1x1 .f32 × FVec F S1x1 .f32

/-- The running maximum and the three coordinates where it was met, one of each per position of a block. -/
abbrev Acc (F : FTy → Type) : Type := FVec F S8x128 .f32 × FVec F S8x128 .f32 × FVec F S8x128 .f32 × FVec F S8x128 .f32

/-- What the running maximum starts from. -/
def acc0 : Acc F :=
  (broadcast S8x128 (Scalar.ofBits .f32 0xFF800000#32), broadcast S8x128 (Scalar.ofBits .f32 0x00000000#32),
    broadcast S8x128 (Scalar.ofBits .f32 0x00000000#32), broadcast S8x128 (Scalar.ofBits .f32 0x00000000#32))

/-- One block as the loads give it: the three coordinates. -/
abbrev cast8 (v : FVec F S8x128 .f32) : FVec F S8x128 .f32 := shapeCast S8x128 v shapeCasts_S8x128_S8x128

/-- The squared distances of a block's points to the carried one. -/
def sqDist (p : Pt F) (x y z : FVec F S8x128 .f32) : FVec F S8x128 .f32 :=
  addf (addf (mulf (subf x (broadcastTo S8x128 p.1 broadcasts_S1x1_S8x128)) (subf x (broadcastTo S8x128 p.1 broadcasts_S1x1_S8x128)))
      (mulf (subf z (broadcastTo S8x128 p.2.2 broadcasts_S1x1_S8x128)) (subf z (broadcastTo S8x128 p.2.2 broadcasts_S1x1_S8x128))))
    (mulf (subf y (broadcastTo S8x128 p.2.1 broadcasts_S1x1_S8x128)) (subf y (broadcastTo S8x128 p.2.1 broadcasts_S1x1_S8x128)))

/-- The block's new running minimum. -/
def newDist (p : Pt F) (x y z d : FVec F S8x128 .f32) : FVec F S8x128 .f32 := minimumf d (sqDist p x y z)

/-- The running maximum after the block: where the block's value is greater, it and its coordinates. -/
def better (a : Acc F) (n x y z : FVec F S8x128 .f32) : Acc F :=
  (select (cmpf .ogt n a.1) n a.1, select (cmpf .ogt n a.1) x a.2.1, select (cmpf .ogt n a.1) y a.2.2.1,
    select (cmpf .ogt n a.1) z a.2.2.2)

/-- Two running maxima joined: the second where it is strictly greater. -/
def join (a b : Acc F) : Acc F :=
  (select (cmpf .oge a.1 b.1) a.1 b.1, select (cmpf .oge a.1 b.1) a.2.1 b.2.1, select (cmpf .oge a.1 b.1) a.2.2.1 b.2.2.1,
    select (cmpf .oge a.1 b.1) a.2.2.2 b.2.2.2)

/-- The rows turned by `s`. -/
def turn (s : BitVec 32) (a : Acc F) : Acc F :=
  (dynamicRotate 0 s none a.1 rotates_S8x128_d0, dynamicRotate 0 s none a.2.1 rotates_S8x128_d0,
    dynamicRotate 0 s none a.2.2.1 rotates_S8x128_d0, dynamicRotate 0 s none a.2.2.2 rotates_S8x128_d0)

/-- A running maximum joined with itself turned by four, two and one rows: every row then holds the columns' maxima. -/
def fold8 (a : Acc F) : Acc F :=
  let a4 := join a (turn 4#32 a)
  let a2 := join a4 (turn 2#32 a4)
  join a2 (turn 1#32 a2)

/-- The first row. -/
abbrev row0 (v : FVec F S8x128 .f32) : FVec F S1x128 .f32 := extractStridedSlice S1x128 ![0, 0] v slices_S8x128_o0_0_S1x128

/-- The sum of a row's entries. -/
def rowSum (v : FVec F S1x128 .f32) : FVec F S1x1 .f32 :=
  shapeCast S1x1 (multiReduction .add [1] S1 v 0x00000000#32 reduces_S1x128_S1 (.inl rfl) rfl) shapeCasts_S1_S1x1

/-- The greatest of a row's entries. -/
def rowMax (v : FVec F S1x128 .f32) : FVec F S1x1 .f32 :=
  shapeCast S1x1 (multiReduction .maximumf [1] S1 v 0xFF800000#32 reduces_S1x128_S1 (.inl rfl) rfl) shapeCasts_S1_S1x1

/-- The least of a row's entries. -/
def rowMin (v : FVec F S1x128 .f32) : FVec F S1x1 .f32 :=
  shapeCast S1x1 (multiReduction .minimumf [1] S1 v 0x7F800000#32 reduces_S1x128_S1 (.inl rfl) rfl) shapeCasts_S1_S1x1

/-- The columns' sums of a block, as a row; -/
def colSum (v : FVec F S8x128 .f32) : FVec F S1x128 .f32 :=
  shapeCast S1x128 (multiReduction .add [0] S128 v 0x00000000#32 reduces_S8x128_S128 (.inl rfl) rfl) shapeCasts_S128_S1x128

/-- and their least entries. -/
def colMin (v : FVec F S8x128 .f32) : FVec F S1x128 .f32 :=
  shapeCast S1x128 (multiReduction .minimumf [0] S128 v 0x7F800000#32 reduces_S8x128_S128 (.inl rfl) rfl) shapeCasts_S128_S1x128

/-- The maximum of the trip, from the two chains' running maxima. -/
def maxOf (a : Acc F) : FVec F S1x1 .f32 := rowMax (row0 a.1)

/-- The sum of the coordinates `w` met at the columns that hold the maximum. -/
def hitSum (a : Acc F) (w : FVec F S8x128 .f32) : FVec F S1x1 .f32 :=
  rowSum (select (cmpf .oeq (row0 a.1) (broadcastTo S1x128 (maxOf a) broadcasts_S1x1_S1x128)) (row0 w)
    (broadcast S1x128 (Scalar.ofBits .f32 0x00000000#32)))

/-- The coordinates met at the columns that hold the maximum. -/
def hits (a : Acc F) : Pt F := (hitSum a a.2.1, hitSum a a.2.2.1, hitSum a a.2.2.2)

/-- One where a block holds the maximum `mb`, zero elsewhere. -/
def hitBlk (mb : FVec F S1x1 .f32) (d : FVec F S8x128 .f32) : FVec F S8x128 .f32 :=
  select (cmpf .oeq d (broadcastTo S8x128 mb broadcasts_S1x1_S8x128)) (broadcast S8x128 (Scalar.ofBits .f32 0x3F800000#32))
    (broadcast S8x128 (Scalar.ofBits .f32 0x00000000#32))

/-- The count of the maximum, from the count per position. -/
def countOf (n : FVec F S8x128 .f32) : F .f32 :=
  extractAt ![0, 0] (rowSum (addf (addf (addf (addf (addf (addf (addf (row0 n)
    (extractStridedSlice S1x128 ![1, 0] n slices_S8x128_o1_0_S1x128))
    (extractStridedSlice S1x128 ![2, 0] n slices_S8x128_o2_0_S1x128))
    (extractStridedSlice S1x128 ![3, 0] n slices_S8x128_o3_0_S1x128))
    (extractStridedSlice S1x128 ![4, 0] n slices_S8x128_o4_0_S1x128))
    (extractStridedSlice S1x128 ![5, 0] n slices_S8x128_o5_0_S1x128))
    (extractStridedSlice S1x128 ![6, 0] n slices_S8x128_o6_0_S1x128))
    (extractStridedSlice S1x128 ![7, 0] n slices_S8x128_o7_0_S1x128))) inpos_S1x1_p0_0

/-- The word of the conditional: one when the maximum is met more than once. -/
def tieBit (n : FVec F S8x128 .f32) : BitVec 1 :=
  Scalar.cmpi .ne (Scalar.extui (Scalar.cmpf .ogt (countOf n) (Scalar.ofBits .f32 0x3FC00000#32)) : BitVec 32) 0#32

/-- The bits of the float `1024 * b` (the first index of block `b`), for `b < 64`: the leading bit of `b` gives the
    exponent, the bits below it the mantissa. -/
def offBits : ℕ → BitVec 32
  | 0 => 0#32
  | b + 1 => BitVec.ofNat 32 ((127 + 10 + Nat.log2 (b + 1)) * 2 ^ 23 + ((b + 1) - 2 ^ Nat.log2 (b + 1)) * 2 ^ (23 - Nat.log2 (b + 1)))

/-- The indices of block `b`'s positions, as floats, from those of block 0. -/
def idxBlk (v5 : FVec F S8x128 .f32) (b : ℕ) : FVec F S8x128 .f32 := addf v5 (broadcast S8x128 (Scalar.ofBits .f32 (offBits b)))

/-- The least index in a block that holds the maximum (`2^25` where none does), with the least so far. -/
def minIdx (v5 : FVec F S8x128 .f32) (mb : FVec F S1x1 .f32) (b : ℕ) (i : FVec F S1x1 .f32) (d : FVec F S8x128 .f32) : FVec F S1x1 .f32 :=
  minimumf i (rowMin (colMin (select (cmpf .oeq d (broadcastTo S8x128 mb broadcasts_S1x1_S8x128)) (idxBlk v5 b)
    (broadcast S8x128 (Scalar.ofBits .f32 0x4C000000#32)))))

/-- The entries of a block at index `iwin` summed, added to the sum so far. -/
def pick (v5 : FVec F S8x128 .f32) (iwin : FVec F S1x1 .f32) (b : ℕ) (t : FVec F S1x1 .f32) (x : FVec F S8x128 .f32) : FVec F S1x1 .f32 :=
  addf t (rowSum (colSum (select (cmpf .oeq (idxBlk v5 b) (broadcastTo S8x128 iwin broadcasts_S1x1_S8x128)) x
    (broadcast S8x128 (Scalar.ofBits .f32 0x00000000#32)))))

/-- The row of the result a point makes: its first coordinate in column 0, its second in column 1, its third elsewhere. -/
def outRow (v6 : IVec S1x128 32) (p : Pt F) : FVec F S1x128 .f32 :=
  select (cmpi .eq v6 (broadcast S1x128 0#32))
    (broadcastTo S1x128 (shapeCast S1x1 p.1 shapeCasts_S1x1_S1x1) broadcasts_S1x1_S1x128)
    (select (cmpi .eq v6 (broadcast S1x128 1#32))
      (broadcastTo S1x128 (shapeCast S1x1 p.2.1 shapeCasts_S1x1_S1x1) broadcasts_S1x1_S1x128)
      (broadcastTo S1x128 (shapeCast S1x1 p.2.2 shapeCasts_S1x1_S1x1) broadcasts_S1x1_S1x128))

/-! ## The programs -/

section Prog

variable {nD : ℕ} {τ : Topo} {sig : RefSig} {Λ : Labels}

/-- A program on a TensorCore. -/
abbrev Pg (F : FTy → Type) (nD : ℕ) (τ : Topo) (sig : RefSig) (Λ : Labels) (α : Type) : Type 1 := Prog (TpuEff nD τ sig (Elt F) Λ .tc) α

/-- The load of block `b` of plane `o` of the points; -/
abbrev ldX (arg0 : Memref sig .tc .vmem S1176x128 .f32) (o : ℕ) (ho : o ≤ 784) (b : ℕ) (h : b < 49) : Pg F nD τ sig Λ (Vec F S8x128 .f32) :=
  Prog.lift (.load arg0 (rX o ho b h).toLoadRect (View.loadsAt_vmem h_S8x128))

/-- of block `b` of the running minimum; -/
abbrev ldD (arg2 : Memref sig .tc .vmem S392x128 .f32) (b : ℕ) (h : b < 49) : Pg F nD τ sig Λ (Vec F S8x128 .f32) :=
  Prog.lift (.load arg2 (rD b h).toLoadRect (View.loadsAt_vmem h_S8x128))

/-- and the store there. -/
abbrev stD (arg2 : Memref sig .tc .vmem S392x128 .f32) (b : ℕ) (h : b < 49) (w : FVec F S8x128 .f32) : Pg F nD τ sig Λ PUnit :=
  Prog.lift (.store arg2 (rD b h) w Finset.univ (View.stores_vmem_bits_univ h_S8x128 rfl) (.inl rfl))

/-- THE FIRST PASS at block `b`: the running minimum updated in place, the running maximum carried. -/
def scanBlk (arg0 : Memref sig .tc .vmem S1176x128 .f32) (arg2 : Memref sig .tc .vmem S392x128 .f32) (p : Pt F)
    (b : ℕ) (h : b < 49) (a : Acc F) : Pg F nD τ sig Λ (Acc F) := do
  let x ← ldX arg0 0 (by omega) b h
  let y ← ldX arg0 392 (by omega) b h
  let z ← ldX arg0 784 (by omega) b h
  let d ← ldD arg2 b h
  let _ ← ldD arg2 b h
  stD arg2 b h (cast8 (newDist p (cast8 x) (cast8 y) (cast8 z) d))
  pure (better a (newDist p (cast8 x) (cast8 y) (cast8 z) d) (cast8 x) (cast8 y) (cast8 z))

/-- over the `n` blocks from `b`. -/
def scan (arg0 : Memref sig .tc .vmem S1176x128 .f32) (arg2 : Memref sig .tc .vmem S392x128 .f32) (p : Pt F) :
    (n b : ℕ) → b + n ≤ 49 → Acc F → Pg F nD τ sig Λ (Acc F)
  | 0, _, _, a => pure a
  | n + 1, b, h, a => do
    let a ← scanBlk arg0 arg2 p b (by omega) a
    scan arg0 arg2 p n (b + 1) (by omega) a

/-- THE SECOND PASS over the `n` blocks from `b`: how often each position holds the maximum. -/
def count (arg2 : Memref sig .tc .vmem S392x128 .f32) (mb : FVec F S1x1 .f32) :
    (n b : ℕ) → b + n ≤ 49 → FVec F S8x128 .f32 → Pg F nD τ sig Λ (FVec F S8x128 .f32)
  | 0, _, _, a => pure a
  | n + 1, b, h, a => do
    let d ← ldD arg2 b (by omega)
    count arg2 mb n (b + 1) (by omega) (addf a (hitBlk mb d))

/-- ON A TIE, the least index that holds the maximum, -/
def least (arg2 : Memref sig .tc .vmem S392x128 .f32) (v5 : FVec F S8x128 .f32) (mb : FVec F S1x1 .f32) :
    (n b : ℕ) → b + n ≤ 49 → FVec F S1x1 .f32 → Pg F nD τ sig Λ (FVec F S1x1 .f32)
  | 0, _, _, a => pure a
  | n + 1, b, h, a => do
    let d ← ldD arg2 b (by omega)
    least arg2 v5 mb n (b + 1) (by omega) (minIdx v5 mb b a d)

/-- and the coordinates there. -/
def gather (arg0 : Memref sig .tc .vmem S1176x128 .f32) (v5 : FVec F S8x128 .f32) (iwin : FVec F S1x1 .f32) :
    (n b : ℕ) → b + n ≤ 49 → Pt F → Pg F nD τ sig Λ (Pt F)
  | 0, _, _, t => pure t
  | n + 1, b, h, t => do
    let x ← ldX arg0 0 (by omega) b (by omega)
    let y ← ldX arg0 392 (by omega) b (by omega)
    let z ← ldX arg0 784 (by omega) b (by omega)
    gather arg0 v5 iwin n (b + 1) (by omega)
      (pick v5 iwin b t.1 (cast8 x), pick v5 iwin b t.2.1 (cast8 y), pick v5 iwin b t.2.2 (cast8 z))

/-- The tie's two passes. -/
def tie (arg0 : Memref sig .tc .vmem S1176x128 .f32) (arg2 : Memref sig .tc .vmem S392x128 .f32) (v5 : FVec F S8x128 .f32)
    (mb : FVec F S1x1 .f32) : Pg F nD τ sig Λ (Pt F) := do
  let iwin ← least arg2 v5 mb 49 0 (by omega) (broadcast S1x1 (Scalar.ofBits .f32 0x4C000000#32))
  gather arg0 v5 iwin 49 0 (by omega) (broadcast S1x1 (Scalar.ofBits .f32 0x00000000#32),
    broadcast S1x1 (Scalar.ofBits .f32 0x00000000#32), broadcast S1x1 (Scalar.ofBits .f32 0x00000000#32))

/-- The tie's passes where the count asks for them, else the coordinates already met. -/
def settle (arg0 : Memref sig .tc .vmem S1176x128 .f32) (arg2 : Memref sig .tc .vmem S392x128 .f32) (v5 : FVec F S8x128 .f32)
    (mb : FVec F S1x1 .f32) (n : FVec F S8x128 .f32) (q : Pt F) : Pg F nD τ sig Λ (Pt F) :=
  if tieBit n = 1#1 then tie arg0 arg2 v5 mb else pure q

/-- ONE TRIP that writes its point at `off` of the result. -/
def trip (arg0 : Memref sig .tc .vmem S1176x128 .f32) (arg1 : Memref sig .tc .vmem S8192x128 .f32)
    (arg2 : Memref sig .tc .vmem S392x128 .f32) (v5 : FVec F S8x128 .f32) (v6 : IVec S1x128 32)
    (off : Fin 2 → ℕ) (hoff : ∀ a, off a + S1x128.size a ≤ S8192x128.size a) (p : Pt F) : Pg F nD τ sig Λ (Pt F) := do
  let a ← scan arg0 arg2 p 25 0 (by omega) acc0
  let b ← scan arg0 arg2 p 24 25 (by omega) acc0
  let n ← count arg2 (maxOf (fold8 (join a b))) 49 0 (by omega) (broadcast S8x128 (Scalar.ofBits .f32 0x00000000#32))
  let w ← settle arg0 arg2 v5 (maxOf (fold8 (join a b))) n (hits (fold8 (join a b)))
  let _ ← (Prog.lift (.load arg1 (Rect.unit (s := S8192x128) off S1x128.size hoff).toLoadRect (View.loadsAt_vmem h_S1x128)) : Pg F nD τ sig Λ (Vec F S1x128 .f32))
  (Prog.lift (.store arg1 (Rect.unit (s := S8192x128) off S1x128.size hoff) (outRow v6 w) Finset.univ
    (View.stores_vmem_bits_univ h_S1x128 rfl) (.inl rfl)) : Pg F nD τ sig Λ PUnit)
  pure w

end Prog

end Cert.Fps

end
-- ==== Proof.Held.lean ====
/-
  A BUFFER HELD AT A VALUE, and one load or one store there.

  `has c M D`: core `c` holds the buffer under the view `M` whole, and reading it through `M` gives `D`. A load through
  a rectangle reads `D` there; a store puts its value there and leaves the rest (`put`). Over any signature, any
  reading of the floats and any resource algebra.
-/
module

public import Idealize.ShloMosaic.Lib.Tactic
public import Idealize.ShloMosaic.Lib.Pipeline.Kit

@[expose] public section

noncomputable section

namespace Cert.Fps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Put

variable {A : Type} {s : Shape}

open Classical in
/-- `D` with the rectangle `r` replaced by `w`. -/
def put (r : Rect s) (w : r.shape.Idx → A) (D : s.Idx → A) : s.Idx → A :=
  fun i => if h : ∃ j, r.emb j = i then w h.choose else D i

/-- In the rectangle: what was put, -/
theorem put_emb (r : Rect s) (w : r.shape.Idx → A) (D : s.Idx → A) (j : r.shape.Idx) : put r w D (r.emb j) = w j := by
  have h : ∃ j', r.emb j' = r.emb j := ⟨j, rfl⟩
  unfold put
  rw [dif_pos h]
  exact congrArg w (r.emb.injective h.choose_spec)

/-- elsewhere: as before. -/
theorem put_of_not (r : Rect s) (w : r.shape.Idx → A) (D : s.Idx → A) {i : s.Idx} (h : ∀ j, r.emb j ≠ i) : put r w D i = D i := by
  unfold put
  rw [dif_neg (fun ⟨j, hj⟩ => h j hj)]

end Put

variable {nD : ℕ} {τ : Topo} {sig : RefSig} {Λ : Labels} {F : FTy → Type} {U : Type} [URA U]

/-- Core `c` holds `M`'s buffer whole, and it reads `D` through `M`. -/
def has (c : Dev nD) {sp : Space} {s : Shape} {e : EltTy} (M : Memref sig .tc sp s e) (D : Vec F s e) :
    sProp (MT nD τ sig Unit (Elt F) ℕ U ℕ) :=
  iprop(∃ f : Buf (Elt F) (M.view.loc (c : Thread nD τ)), (M.view.loc (c : Thread nD τ) ↦{fullShare} f) ∗ ⌜M.view.read (Elt F) f = D⌝)

variable {defs : Defs nD τ sig (Elt F) Λ} {α : Type}

/-- A load through `r` reads `D` there. -/
theorem has_load (c : Dev nD) {cs : CoreSpace} {s : Shape} {e : EltTy} (M : Memref sig .tc cs s e) (r : Rect s) (hl : M.view.LoadsAt r)
    (D : Vec F s e) (k : (r.shape.Idx → Elt F e) → Prog (TpuEff nD τ sig (Elt F) Λ .tc) α)
    (Q : α → sProp (MT nD τ sig Unit (Elt F) ℕ U ℕ)) :
    has c M D ⊢ iprop((has c M D -∗ wp frame (wpE defs Variants.none (c : Thread nD τ) none) Set.univ (k fun j => D (r.emb j)) Q)
      -∗ wp frame (wpE defs Variants.none (c : Thread nD τ) none) Set.univ (Prog.lift (.load M r hl) >>= k) Q) := by
  unfold has
  iintro ⟨%f, H, %hf⟩ Hk
  iapply (wp_load_rect Variants.none (c : Thread nD τ) none Set.univ (m := M) (r := r) (hl := hl) (k := k) (S := Finset.univ) (q := fullShare) (f := f) (Finset.subset_univ _)) $$ H
  iintro H
  subst hf
  iapply Hk
  iexists f
  isplitl [H]; · iexact H
  ipureintro; rfl

/-- The same, what is read under the name `R`. -/
theorem has_load_as (c : Dev nD) {cs : CoreSpace} {s : Shape} {e : EltTy} (M : Memref sig .tc cs s e) (r : Rect s) (hl : M.view.LoadsAt r)
    (D : Vec F s e) (R : r.shape.Idx → Elt F e) (hR : R = fun j => D (r.emb j)) (k : (r.shape.Idx → Elt F e) → Prog (TpuEff nD τ sig (Elt F) Λ .tc) α)
    (Q : α → sProp (MT nD τ sig Unit (Elt F) ℕ U ℕ)) :
    has c M D ⊢ iprop((has c M D -∗ wp frame (wpE defs Variants.none (c : Thread nD τ) none) Set.univ (k R) Q)
      -∗ wp frame (wpE defs Variants.none (c : Thread nD τ) none) Set.univ (Prog.lift (.load M r hl) >>= k) Q) :=
  hR ▸ has_load c M r hl D k Q

/-- A store through `r` replaces `D` there. -/
theorem has_store (c : Dev nD) {cs : CoreSpace} {s : Shape} {e : EltTy} (M : Memref sig .tc cs s e) (r : Rect s)
    (w : r.shape.Idx → Elt F e) (hx : (M.access r).Stores Finset.univ) (hm : (Finset.univ : Finset r.shape.Idx) = Finset.univ ∨ ∀ a, r.stride a = 1)
    (D : Vec F s e) (k : PUnit → Prog (TpuEff nD τ sig (Elt F) Λ .tc) α)
    (Q : α → sProp (MT nD τ sig Unit (Elt F) ℕ U ℕ)) :
    has c M D ⊢ iprop((has c M (put r w D) -∗ wp frame (wpE defs Variants.none (c : Thread nD τ) none) Set.univ (k ⟨⟩) Q)
      -∗ wp frame (wpE defs Variants.none (c : Thread nD τ) none) Set.univ (Prog.lift (.store M r w Finset.univ hx hm) >>= k) Q) := by
  unfold has
  iintro ⟨%f, H, %hf⟩ Hk
  iapply (wp_store Variants.none (c : Thread nD τ) none Set.univ (m := M) (r := r) (w := w) (Mk := Finset.univ) (hx := hx) (hm := hm) (k := k) (S := Finset.univ) (f := f) (Finset.subset_univ _)) $$ H
  iintro H
  iapply Hk
  iexists _
  isplitl [H]; · iexact H
  ipureintro
  subst hf
  funext i
  by_cases h : ∃ j, r.emb j = i
  · obtain ⟨j, rfl⟩ := h
    rw [put_emb]
    exact View.read_slice_write_emb (v := M.view) r f w (Finset.mem_univ j)
  · rw [put_of_not r w _ fun j hj => h ⟨j, hj⟩]
    refine View.read_slice_write_of_not_mem (v := M.view) r f w Finset.univ fun hm => ?_
    obtain ⟨j, -, hj⟩ := Finset.mem_map.mp hm
    exact h ⟨j, hj⟩

end Cert.Fps

end
-- ==== Proof.TripRun.lean ====
/-
  WHAT ONE TRIP COMPUTES (`Trip.lean`), run by the rules of load and store (`Held.lean`): each pass has a function of
  the points, the running minimum and the carried values, by the same recursion over the block number, and the pass
  run from the buffers held leaves them at that function's value.
-/
module

public import proofs.«01_k».proof.Proof.Trip
public import proofs.«01_k».proof.Proof.Held

@[expose] public section

noncomputable section

namespace Cert.Fps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal (S8x128 S1176x128 S8192x128 S392x128 S1x128 S1x1 S1 S128)

variable {F : FTy → Type} [FloatOps F]

/-! ## The functions -/

/-- Block `b` of the running minimum, -/
def blkD (D : Vec F S392x128 .f32) (b : ℕ) (h : b < 49) : Vec F S8x128 .f32 := fun j => D ((rD b h).emb j)
/-- and of plane `o` of the points. -/
def blkX (X : Vec F S1176x128 .f32) (o : ℕ) (ho : o ≤ 784) (b : ℕ) (h : b < 49) : Vec F S8x128 .f32 := fun j => X ((rX o ho b h).emb j)

/-- The new running minimum of block `b`. -/
def newBlk (X : Vec F S1176x128 .f32) (p : Pt F) (b : ℕ) (h : b < 49) (d : Vec F S8x128 .f32) : FVec F S8x128 .f32 :=
  newDist p (cast8 (blkX X 0 (by omega) b h)) (cast8 (blkX X 392 (by omega) b h)) (cast8 (blkX X 784 (by omega) b h)) d

/-- The first pass at block `b`; -/
def scanBlkV (X : Vec F S1176x128 .f32) (p : Pt F) (b : ℕ) (h : b < 49) (s : Vec F S392x128 .f32 × Acc F) : Vec F S392x128 .f32 × Acc F :=
  (put (rD b h) (cast8 (newBlk X p b h (blkD s.1 b h))) s.1,
    better s.2 (newBlk X p b h (blkD s.1 b h)) (cast8 (blkX X 0 (by omega) b h)) (cast8 (blkX X 392 (by omega) b h)) (cast8 (blkX X 784 (by omega) b h)))

/-- over the `n` blocks from `b`. -/
def scanV (X : Vec F S1176x128 .f32) (p : Pt F) : (n b : ℕ) → b + n ≤ 49 → Vec F S392x128 .f32 × Acc F → Vec F S392x128 .f32 × Acc F
  | 0, _, _, s => s
  | n + 1, b, h, s => scanV X p n (b + 1) (by omega) (scanBlkV X p b (by omega) s)

/-- The second pass. -/
def countV (D : Vec F S392x128 .f32) (mb : FVec F S1x1 .f32) : (n b : ℕ) → b + n ≤ 49 → FVec F S8x128 .f32 → FVec F S8x128 .f32
  | 0, _, _, a => a
  | n + 1, b, h, a => countV D mb n (b + 1) (by omega) (addf a (hitBlk mb (blkD D b (by omega))))

/-- The tie's first pass, -/
def leastV (D : Vec F S392x128 .f32) (v5 : FVec F S8x128 .f32) (mb : FVec F S1x1 .f32) : (n b : ℕ) → b + n ≤ 49 → FVec F S1x1 .f32 → FVec F S1x1 .f32
  | 0, _, _, a => a
  | n + 1, b, h, a => leastV D v5 mb n (b + 1) (by omega) (minIdx v5 mb b a (blkD D b (by omega)))

/-- its second. -/
def gatherV (X : Vec F S1176x128 .f32) (v5 : FVec F S8x128 .f32) (iwin : FVec F S1x1 .f32) : (n b : ℕ) → b + n ≤ 49 → Pt F → Pt F
  | 0, _, _, t => t
  | n + 1, b, h, t => gatherV X v5 iwin n (b + 1) (by omega)
      (pick v5 iwin b t.1 (cast8 (blkX X 0 (by omega) b (by omega))), pick v5 iwin b t.2.1 (cast8 (blkX X 392 (by omega) b (by omega))),
        pick v5 iwin b t.2.2 (cast8 (blkX X 784 (by omega) b (by omega))))

/-- Zero at every position of a block, -/
abbrev zero8 : FVec F S8x128 .f32 := broadcast S8x128 (Scalar.ofBits .f32 0x00000000#32)
/-- as one number, -/
abbrev zero1 : FVec F S1x1 .f32 := broadcast S1x1 (Scalar.ofBits .f32 0x00000000#32)
/-- and the index no position has, `2^25`. -/
abbrev far1 : FVec F S1x1 .f32 := broadcast S1x1 (Scalar.ofBits .f32 0x4C000000#32)

/-- The tie's point. -/
def tieV (X : Vec F S1176x128 .f32) (D : Vec F S392x128 .f32) (v5 : FVec F S8x128 .f32) (mb : FVec F S1x1 .f32) : Pt F :=
  gatherV X v5 (leastV D v5 mb 49 0 (by omega) far1) 49 0 (by omega) (zero1, zero1, zero1)

/-- The point by the count. -/
def settleV (X : Vec F S1176x128 .f32) (D : Vec F S392x128 .f32) (v5 : FVec F S8x128 .f32) (mb : FVec F S1x1 .f32) (n : FVec F S8x128 .f32) (q : Pt F) : Pt F :=
  if tieBit n = 1#1 then tieV X D v5 mb else q

/-- The two chains of the first pass: the first 25 blocks, -/
def chainA (X : Vec F S1176x128 .f32) (p : Pt F) (D : Vec F S392x128 .f32) : Vec F S392x128 .f32 × Acc F := scanV X p 25 0 (by omega) (D, acc0)
/-- then the other 24. -/
def chainB (X : Vec F S1176x128 .f32) (p : Pt F) (D : Vec F S392x128 .f32) : Vec F S392x128 .f32 × Acc F :=
  scanV X p 24 25 (by omega) ((chainA X p D).1, acc0)

/-- The columns' maxima of the trip. -/
def topV (X : Vec F S1176x128 .f32) (p : Pt F) (D : Vec F S392x128 .f32) : Acc F := fold8 (join (chainA X p D).2 (chainB X p D).2)

/-- The trip's point, -/
def tripPt (X : Vec F S1176x128 .f32) (v5 : FVec F S8x128 .f32) (p : Pt F) (D : Vec F S392x128 .f32) : Pt F :=
  settleV X (chainB X p D).1 v5 (maxOf (topV X p D)) (countV (chainB X p D).1 (maxOf (topV X p D)) 49 0 (by omega) zero8) (hits (topV X p D))

/-- and its running minimum: the second of the pair. -/
def tripV (X : Vec F S1176x128 .f32) (v5 : FVec F S8x128 .f32) (s : Pt F × Vec F S392x128 .f32) : Pt F × Vec F S392x128 .f32 :=
  (tripPt X v5 s.1 s.2, (chainB X s.1 s.2).1)

/-! ## The runs -/

variable {nD : ℕ} {τ : Topo} {sig : RefSig} {Λ : Labels} {U : Type} [URA U] {defs : Defs nD τ sig (Elt F) Λ}

/-- The weakest precondition of a program on core `c`, every name open to it. -/
abbrev Runs (defs : Defs nD τ sig (Elt F) Λ) (c : Dev nD) {α : Type} (P : Pg F nD τ sig Λ α) (Q : α → sProp (MT nD τ sig Unit (Elt F) ℕ U ℕ)) :
    sProp (MT nD τ sig Unit (Elt F) ℕ U ℕ) :=
  wp frame (wpE defs Variants.none (c : Thread nD τ) none) Set.univ P Q

section Runs

variable (c : Dev nD) (arg0 : Memref sig .tc .vmem S1176x128 .f32) (arg1 : Memref sig .tc .vmem S8192x128 .f32)
    (arg2 : Memref sig .tc .vmem S392x128 .f32) (X : Vec F S1176x128 .f32)

theorem scanBlk_run (p : Pt F) (b : ℕ) (h : b < 49) (D : Vec F S392x128 .f32) (a : Acc F) (Q : Acc F → sProp (MT nD τ sig Unit (Elt F) ℕ U ℕ)) :
    iprop(has c arg0 X ∗ has c arg2 D ∗ (has c arg0 X -∗ has c arg2 (scanBlkV X p b h (D, a)).1 -∗ Q (scanBlkV X p b h (D, a)).2))
      ⊢ Runs defs c (scanBlk arg0 arg2 p b h a) Q := by
  unfold scanBlk scanBlkV
  dsimp only
  iintro ⟨HX, HD, HQ⟩
  iapply (has_load_as c arg0 _ _ X (blkX X 0 _ b h) rfl) $$ HX; iintro HX
  iapply (has_load_as c arg0 _ _ X (blkX X 392 _ b h) rfl) $$ HX; iintro HX
  iapply (has_load_as c arg0 _ _ X (blkX X 784 _ b h) rfl) $$ HX; iintro HX
  iapply (has_load_as c arg2 _ _ D (blkD D b h) rfl) $$ HD; iintro HD
  iapply (has_load_as c arg2 _ _ D (blkD D b h) rfl) $$ HD; iintro HD
  iapply (has_store c arg2 (rD b h) (cast8 (newBlk X p b h (blkD D b h))) _ _ D) $$ HD; iintro HD
  rw [← newBlk, wp_pure]
  imodintro
  iapply HQ $$ HX HD

theorem scan_run (p : Pt F) (Q : Acc F → sProp (MT nD τ sig Unit (Elt F) ℕ U ℕ)) : (n b : ℕ) → (h : b + n ≤ 49) → (D : Vec F S392x128 .f32) → (a : Acc F) →
    iprop(has c arg0 X ∗ has c arg2 D ∗ (has c arg0 X -∗ has c arg2 (scanV X p n b h (D, a)).1 -∗ Q (scanV X p n b h (D, a)).2))
      ⊢ Runs defs c (scan arg0 arg2 p n b h a) Q
  | 0, b, h, D, a => by
    unfold scan scanV
    iintro ⟨HX, HD, HQ⟩
    rw [Runs, wp_pure]
    imodintro
    iapply HQ $$ HX HD
  | n + 1, b, h, D, a => by
    unfold scan scanV
    rw [Runs, wp_bind]
    iintro ⟨HX, HD, HQ⟩
    iapply (scanBlk_run c arg0 arg2 X p b _ D a)
    isplitl [HX]; · iexact HX
    isplitl [HD]; · iexact HD
    iintro HX HD
    iapply (scan_run p Q n (b + 1) _ _ _)
    isplitl [HX]; · iexact HX
    isplitl [HD]; · iexact HD
    iexact HQ

theorem count_run (D : Vec F S392x128 .f32) (mb : FVec F S1x1 .f32) (Q : FVec F S8x128 .f32 → sProp (MT nD τ sig Unit (Elt F) ℕ U ℕ)) :
    (n b : ℕ) → (h : b + n ≤ 49) → (a : FVec F S8x128 .f32) →
    iprop(has c arg2 D ∗ (has c arg2 D -∗ Q (countV D mb n b h a))) ⊢ Runs defs c (count arg2 mb n b h a) Q
  | 0, b, h, a => by
    unfold count countV
    iintro ⟨HD, HQ⟩
    rw [Runs, wp_pure]
    imodintro
    iapply HQ $$ HD
  | n + 1, b, h, a => by
    unfold count countV blkD
    iintro ⟨HD, HQ⟩
    iapply (has_load c arg2 _ _ D) $$ HD; iintro HD
    iapply (count_run D mb Q n (b + 1) _ _)
    isplitl [HD]; · iexact HD
    iexact HQ

theorem least_run (D : Vec F S392x128 .f32) (v5 : FVec F S8x128 .f32) (mb : FVec F S1x1 .f32) (Q : FVec F S1x1 .f32 → sProp (MT nD τ sig Unit (Elt F) ℕ U ℕ)) :
    (n b : ℕ) → (h : b + n ≤ 49) → (a : FVec F S1x1 .f32) →
    iprop(has c arg2 D ∗ (has c arg2 D -∗ Q (leastV D v5 mb n b h a))) ⊢ Runs defs c (least arg2 v5 mb n b h a) Q
  | 0, b, h, a => by
    unfold least leastV
    iintro ⟨HD, HQ⟩
    rw [Runs, wp_pure]
    imodintro
    iapply HQ $$ HD
  | n + 1, b, h, a => by
    unfold least leastV blkD
    iintro ⟨HD, HQ⟩
    iapply (has_load c arg2 _ _ D) $$ HD; iintro HD
    iapply (least_run D v5 mb Q n (b + 1) _ _)
    isplitl [HD]; · iexact HD
    iexact HQ

theorem gather_run (v5 : FVec F S8x128 .f32) (iwin : FVec F S1x1 .f32) (Q : Pt F → sProp (MT nD τ sig Unit (Elt F) ℕ U ℕ)) :
    (n b : ℕ) → (h : b + n ≤ 49) → (t : Pt F) →
    iprop(has c arg0 X ∗ (has c arg0 X -∗ Q (gatherV X v5 iwin n b h t))) ⊢ Runs defs c (gather arg0 v5 iwin n b h t) Q
  | 0, b, h, t => by
    unfold gather gatherV
    iintro ⟨HX, HQ⟩
    rw [Runs, wp_pure]
    imodintro
    iapply HQ $$ HX
  | n + 1, b, h, t => by
    unfold gather gatherV blkX
    iintro ⟨HX, HQ⟩
    iapply (has_load c arg0 _ _ X) $$ HX; iintro HX
    iapply (has_load c arg0 _ _ X) $$ HX; iintro HX
    iapply (has_load c arg0 _ _ X) $$ HX; iintro HX
    iapply (gather_run v5 iwin Q n (b + 1) _ _)
    isplitl [HX]; · iexact HX
    iexact HQ

theorem settle_run (D : Vec F S392x128 .f32) (v5 : FVec F S8x128 .f32) (mb : FVec F S1x1 .f32) (n : FVec F S8x128 .f32) (q : Pt F)
    (Q : Pt F → sProp (MT nD τ sig Unit (Elt F) ℕ U ℕ)) :
    iprop(has c arg0 X ∗ has c arg2 D ∗ (has c arg0 X -∗ has c arg2 D -∗ Q (settleV X D v5 mb n q)))
      ⊢ Runs defs c (settle arg0 arg2 v5 mb n q) Q := by
  unfold settle settleV
  by_cases ht : tieBit n = 1#1
  · rw [if_pos ht, if_pos ht]
    unfold tie tieV
    rw [Runs, wp_bind]
    iintro ⟨HX, HD, HQ⟩
    iapply (least_run c arg2 D v5 mb _ 49 0 _ _)
    isplitl [HD]; · iexact HD
    iintro HD
    iapply (gather_run c arg0 X v5 _ Q 49 0 _ _)
    isplitl [HX]; · iexact HX
    iintro HX
    iapply HQ $$ HX HD
  · rw [if_neg ht, if_neg ht]
    iintro ⟨HX, HD, HQ⟩
    rw [Runs, wp_pure]
    imodintro
    iapply HQ $$ HX HD

/-- One trip: the point it yields, the running minimum it leaves, the row it writes. -/
theorem trip_run (O : Vec F S8192x128 .f32) (D : Vec F S392x128 .f32) (v5 : FVec F S8x128 .f32) (v6 : IVec S1x128 32)
    (off : Fin 2 → ℕ) (hoff : ∀ a, off a + S1x128.size a ≤ S8192x128.size a) (p : Pt F) (Q : Pt F → sProp (MT nD τ sig Unit (Elt F) ℕ U ℕ)) :
    iprop(has c arg0 X ∗ has c arg1 O ∗ has c arg2 D
        ∗ (has c arg0 X -∗ has c arg1 (put (Rect.unit (s := S8192x128) off S1x128.size hoff) (outRow v6 (tripPt X v5 p D)) O)
          -∗ has c arg2 (chainB X p D).1 -∗ Q (tripPt X v5 p D)))
      ⊢ Runs defs c (trip arg0 arg1 arg2 v5 v6 off hoff p) Q := by
  unfold trip
  rw [Runs, wp_bind]
  iintro ⟨HX, HO, HD, HQ⟩
  iapply (scan_run c arg0 arg2 X p _ 25 0 _ D acc0)
  isplitl [HX]; · iexact HX
  isplitl [HD]; · iexact HD
  iintro HX HD
  rw [wp_bind]
  iapply (scan_run c arg0 arg2 X p _ 24 25 _ _ acc0)
  isplitl [HX]; · iexact HX
  isplitl [HD]; · iexact HD
  iintro HX HD
  rw [wp_bind]
  iapply (count_run c arg2 _ _ _ 49 0 _ _)
  isplitl [HD]; · iexact HD
  iintro HD
  rw [wp_bind]
  iapply (settle_run c arg0 arg2 X _ v5 _ _ _ _)
  isplitl [HX]; · iexact HX
  isplitl [HD]; · iexact HD
  iintro HX HD
  iapply (has_load c arg1 _ _ O) $$ HO; iintro HO
  iapply (has_store c arg1 _ _ _ _ O) $$ HO; iintro HO
  rw [wp_pure]
  imodintro
  unfold tripPt topV chainB chainA
  iapply HQ $$ HX HO HD

end Runs

end Cert.Fps

end
-- ==== Proof.Body.lean ====
/-
  THE WHOLE KERNEL as a program of trips (`Trip.lean`), and what it leaves: the running minimum set to `+∞` at the
  50000 points and `-∞` at the padding, the first point taken as the first pick and written to row 0 of the result, and
  one trip after another from there, trip `k` writing row `k + 1`.
-/
module

public import proofs.«01_k».proof.Proof.TripRun
public import Idealize.ShloMosaic.Lib.Scf
public import Idealize.ShloMosaic.Lib.Pipeline.Value

@[expose] public section

noncomputable section

namespace Cert.Fps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal (S8x128 S1176x128 S8192x128 S392x128 S1x128 S1x1 S1 S128 k0_t1_loop k0_off1)
open Cert.KernelIdeal.Facts₀

variable {F : FTy → Type} [FloatOps F]

/-! ## The constants of the kernel -/

/-- The positions of a block in row-major order, as floats. -/
def flat8 : FVec F S8x128 .f32 :=
  sitofp .f32 (addi (muli (iota .tc S8x128 32 [0] iota_S8x128_d0_w32) (broadcast S8x128 128#32)) (iota .tc S8x128 32 [1] iota_S8x128_d1_w32))

/-- The columns of a row. -/
def cols : IVec S1x128 32 := iota .tc S1x128 32 [1] iota_S1x128_d1_w32

/-- The first running minimum: `+∞` at the points, `-∞` at the padding. -/
def dist0 : FVec F S392x128 .f32 :=
  select (cmpi .slt (addi (muli (iota .tc S392x128 32 [0] iota_S392x128_d0_w32) (broadcast S392x128 128#32)) (iota .tc S392x128 32 [1] iota_S392x128_d1_w32))
      (broadcast S392x128 50000#32))
    (broadcast S392x128 (Scalar.ofBits .f32 0x7F800000#32)) (broadcast S392x128 (Scalar.ofBits .f32 0xFF800000#32))

/-- The entry of column 0 of a row. -/
def firstOf (v : FVec F S1x128 .f32) : FVec F S1x1 .f32 :=
  rowSum (select (cmpi .eq cols (broadcast S1x128 0#32)) (shapeCast S1x128 v shapeCasts_S1x128_S1x128) (broadcast S1x128 (Scalar.ofBits .f32 0x00000000#32)))

/-- Row `o` of the stacked points, as a rectangle. -/
abbrev rRow (o : ℕ) (ho : ∀ a, (![o, 0] : Fin 2 → Nat) a + S1x128.size a ≤ S1176x128.size a) : Rect S1176x128 :=
  Rect.unit (s := S1176x128) ![o, 0] S1x128.size ho

/-- The first point. -/
def point0 (X : Vec F S1176x128 .f32) : Pt F :=
  (firstOf fun j => X ((rRow 0 inb_S1176x128_S1x128_0_0).emb j), firstOf fun j => X ((rRow 392 inb_S1176x128_S1x128_392_0).emb j),
    firstOf fun j => X ((rRow 784 inb_S1176x128_S1x128_784_0).emb j))

/-! ## The picks and the result -/

/-- The point and the running minimum after `k` trips. -/
def stateV (X : Vec F S1176x128 .f32) : ℕ → Pt F × Vec F S392x128 .f32
  | 0 => (point0 X, dist0)
  | k + 1 => tripV X flat8 (stateV X k)

/-- Row `k` of the result, as a rectangle. -/
abbrev rOut (k : ℕ) (h : ∀ a, (![k, 0] : Fin 2 → Nat) a + S1x128.size a ≤ S8192x128.size a) : Rect S8192x128 :=
  Rect.unit (s := S8192x128) ![k, 0] S1x128.size h

/-- The result holds its first `k` picks. -/
def Picked (X : Vec F S1176x128 .f32) (k : ℕ) (O : Vec F S8192x128 .f32) : Prop :=
  ∀ (r : ℕ) (h : r < 8192) (l : Fin 128), r < k → O (fun | 0 => ⟨r, h⟩ | 1 => l) = outRow cols (stateV X r).1 (fun | 0 => ⟨0, by decide⟩ | 1 => l)

theorem picked_zero (X : Vec F S1176x128 .f32) (O : Vec F S8192x128 .f32) : Picked X 0 O := fun r _ _ h => absurd h (Nat.not_lt_zero r)

/-- One more row written. -/
theorem picked_succ (X : Vec F S1176x128 .f32) (k : ℕ) (O : Vec F S8192x128 .f32) (off : Fin 2 → ℕ) (ho : off = ![k, 0])
    (hoff : ∀ a, off a + S1x128.size a ≤ S8192x128.size a) (h : Picked X k O) :
    Picked X (k + 1) (put (Rect.unit (s := S8192x128) off S1x128.size hoff) (outRow cols (stateV X k).1) O) := by
  subst ho
  intro r hr l hlt
  by_cases hk : r = k
  · subst hk
    refine Eq.trans (congrArg _ ?_) (put_emb (rOut r hoff) (outRow cols (stateV X r).1) O (fun | 0 => ⟨0, Nat.zero_lt_one⟩ | 1 => l))
    funext a
    match a with
    | 0 => exact Fin.ext (by show r = r + 1 * 0; omega)
    | 1 => exact Fin.ext (by show l.val = 0 + 1 * l.val; omega)
  · rw [put_of_not]
    · exact h r hr l (by omega)
    · intro j hj
      have h0 : k + 1 * (j 0).val = r := congrArg (fun i : S8192x128.Idx => (i 0).val) hj
      have h1 : (j 0).val < 1 := (j 0).isLt
      omega

/-- All the picks. -/
def allPicks (X : Vec F S1176x128 .f32) : Vec F S8192x128 .f32 :=
  fun i => outRow cols (stateV X (i 0).val).1 (fun | 0 => ⟨0, by decide⟩ | 1 => i 1)

/-- A result that holds its 8192 picks is all of them. -/
theorem picked_all (X : Vec F S1176x128 .f32) (O : Vec F S8192x128 .f32) (h : Picked X 8192 O) : O = allPicks X := by
  funext i
  refine Eq.trans (congrArg O ?_) (h (i 0).val (i 0).isLt (i 1) (i 0).isLt)
  funext a
  match a with
  | 0 => rfl
  | 1 => rfl

/-- The whole of the running minimum written. -/
theorem put_start (h : ∀ a, (![0, 0] : Fin 2 → Nat) a + S392x128.size a ≤ S392x128.size a) (w D : FVec F S392x128 .f32) :
    put (Rect.unit (s := S392x128) ![0, 0] S392x128.size h) (shapeCast S392x128 w Cert.KernelIdeal.Facts₀.shapeCasts_S392x128_S392x128) D = w := by
  rw [shapeCast_self]
  funext i
  have hi : (Rect.unit (s := S392x128) ![0, 0] S392x128.size h).emb i = i := by
    funext a
    match a with
    | 0 => exact Fin.ext (by show 0 + 1 * (i 0).val = (i 0).val; omega)
    | 1 => exact Fin.ext (by show 0 + 1 * (i 1).val = (i 1).val; omega)
  exact (congrArg _ hi.symm).trans (put_emb (Rect.unit (s := S392x128) ![0, 0] S392x128.size h) w D i)

/-! ## The program -/

section Prog

variable {nD : ℕ} {τ : Topo} {sig : RefSig} {Λ : Labels}

/-- What runs before the loop. -/
def start (arg0 : Memref sig .tc .vmem S1176x128 .f32) (arg2 : Memref sig .tc .vmem S392x128 .f32) :
    Pg F nD τ sig Λ (Σ' (_ : FVec F S8x128 .f32) (_ : IVec S1x128 32) (_ : FVec F S1x1 .f32) (_ : FVec F S1x1 .f32), FVec F S1 .f32) := do
  let _ ← (Prog.lift (.load arg2 (Rect.unit (s := S392x128) ![0, 0] S392x128.size inb_S392x128_S392x128_0_0).toLoadRect (View.loadsAt_vmem h_S392x128)) : Pg F nD τ sig Λ (Vec F S392x128 .f32))
  (Prog.lift (.store arg2 (Rect.unit (s := S392x128) ![0, 0] S392x128.size inb_S392x128_S392x128_0_0) (shapeCast S392x128 dist0 shapeCasts_S392x128_S392x128)
    Finset.univ (View.stores_vmem_bits_univ h_S392x128 rfl) (.inl rfl)) : Pg F nD τ sig Λ PUnit)
  let x ← (Prog.lift (.load arg0 (rRow 0 inb_S1176x128_S1x128_0_0).toLoadRect (View.loadsAt_vmem h_S1x128)) : Pg F nD τ sig Λ (Vec F S1x128 .f32))
  let y ← (Prog.lift (.load arg0 (rRow 392 inb_S1176x128_S1x128_392_0).toLoadRect (View.loadsAt_vmem h_S1x128)) : Pg F nD τ sig Λ (Vec F S1x128 .f32))
  let z ← (Prog.lift (.load arg0 (rRow 784 inb_S1176x128_S1x128_784_0).toLoadRect (View.loadsAt_vmem h_S1x128)) : Pg F nD τ sig Λ (Vec F S1x128 .f32))
  pure ⟨flat8, cols, firstOf x, firstOf y, multiReduction .add [1] S1 (select (cmpi .eq cols (broadcast S1x128 0#32)) (shapeCast S1x128 z shapeCasts_S1x128_S1x128)
    (broadcast S1x128 (Scalar.ofBits .f32 0x00000000#32))) 0x00000000#32 reduces_S1x128_S1 (.inl rfl) rfl⟩

/-- The kernel, its trips given as a program each. -/
def kernelOf (arg0 : Memref sig .tc .vmem S1176x128 .f32) (arg1 : Memref sig .tc .vmem S8192x128 .f32) (arg2 : Memref sig .tc .vmem S392x128 .f32)
    (body : FVec F S8x128 .f32 → IVec S1x128 32 → Fin k0_t1_loop.trips → Pt F → Pg F nD τ sig Λ (Pt F)) : Pg F nD τ sig Λ PUnit := do
  let ⟨v5, v6, x, y, z⟩ : Σ' (_ : FVec F S8x128 .f32) (_ : IVec S1x128 32) (_ : FVec F S1x1 .f32) (_ : FVec F S1x1 .f32), FVec F S1 .f32 ← start arg0 arg2
  let _ ← (Prog.lift (.load arg1 (rOut 0 inb_S8192x128_S1x128_0_0).toLoadRect (View.loadsAt_vmem h_S1x128)) : Pg F nD τ sig Λ (Vec F S1x128 .f32))
  (Prog.lift (.store arg1 (rOut 0 inb_S8192x128_S1x128_0_0) (outRow v6 (x, y, shapeCast S1x1 z shapeCasts_S1_S1x1)) Finset.univ
    (View.stores_vmem_bits_univ h_S1x128 rfl) (.inl rfl)) : Pg F nD τ sig Λ PUnit)
  let (_, _, _) ← Scf.Loop.for k0_t1_loop k0_t1_ok (x, y, shapeCast S1x1 z shapeCasts_S1_S1x1) (body v5 v6)
  pure ⟨⟩

/-- The kernel of trips. -/
def kernel (arg0 : Memref sig .tc .vmem S1176x128 .f32) (arg1 : Memref sig .tc .vmem S8192x128 .f32) (arg2 : Memref sig .tc .vmem S392x128 .f32) :
    Pg F nD τ sig Λ PUnit :=
  kernelOf arg0 arg1 arg2 fun v5 v6 k p => trip arg0 arg1 arg2 v5 v6 (k0_off1 k) (k0_off1_inb k) p

/-! ## Its run -/

variable {U : Type} [URA U] {defs : Defs nD τ sig (Elt F) Λ}
variable (c : Dev nD) (arg0 : Memref sig .tc .vmem S1176x128 .f32) (arg1 : Memref sig .tc .vmem S8192x128 .f32)
    (arg2 : Memref sig .tc .vmem S392x128 .f32) (X : Vec F S1176x128 .f32)

theorem trips_eq : k0_t1_loop.trips = 8191 := by decide

/-- Before trip `k`: the carried point and the running minimum are those after `k` trips, and rows `0 … k` are written. -/
def Inv (k : ℕ) (p : Pt F) : sProp (MT nD τ sig Unit (Elt F) ℕ U ℕ) :=
  iprop(⌜p = (stateV X k).1⌝ ∗ has c arg0 X ∗ has c arg2 (stateV X k).2 ∗ ∃ O, has c arg1 O ∗ ⌜Picked X (k + 1) O⌝)

theorem inv_step (k : Fin k0_t1_loop.trips) (p : Pt F) :
    Inv (U := U) c arg0 arg1 arg2 X k.val p ⊢ Runs defs c (trip arg0 arg1 arg2 flat8 cols (k0_off1 k) (k0_off1_inb k) p) (Inv c arg0 arg1 arg2 X (k.val + 1)) := by
  unfold Inv
  iintro ⟨%hp, HX, HD, %O, HO, %hO⟩
  subst hp
  iapply (trip_run c arg0 arg1 arg2 X O _ flat8 cols _ _ _ _)
  isplitl [HX]; · iexact HX
  isplitl [HO]; · iexact HO
  isplitl [HD]; · iexact HD
  iintro HX HO HD
  isplitr; · ipureintro; rfl
  isplitl [HX]; · iexact HX
  isplitl [HD]; · iexact HD
  iexists _
  isplitl [HO]; · iexact HO
  ipureintro
  exact picked_succ X (k.val + 1) O _ (Cert.KernelIdeal.Gen.k0_off1_eq k) _ hO

/-- THE KERNEL: from the points staged, the result and the scratch at anything, it leaves the points as they were and
    the result at all its picks. -/
theorem kernel_run (O : Vec F S8192x128 .f32) (D : Vec F S392x128 .f32) (Q : PUnit → sProp (MT nD τ sig Unit (Elt F) ℕ U ℕ)) :
    iprop(has c arg0 X ∗ has c arg1 O ∗ has c arg2 D
        ∗ (has c arg0 X -∗ has c arg1 (allPicks X) -∗ (∃ D, has c arg2 D) -∗ Q ⟨⟩))
      ⊢ Runs defs c (kernel arg0 arg1 arg2) Q := by
  unfold kernel kernelOf start
  iintro ⟨HX, HO, HD, HQ⟩
  iapply (has_load c arg2 _ _ D) $$ HD; iintro HD
  iapply (has_store c arg2 _ _ _ _ D) $$ HD; iintro HD
  iapply (has_load c arg0 _ _ X) $$ HX; iintro HX
  iapply (has_load c arg0 _ _ X) $$ HX; iintro HX
  iapply (has_load c arg0 _ _ X) $$ HX; iintro HX
  iapply (has_load c arg1 _ _ O) $$ HO; iintro HO
  iapply (has_store c arg1 _ _ _ _ O) $$ HO; iintro HO
  rw [put_start]
  iapply (Scf.wp_for_bind frame (wpE defs Variants.none (c : Thread nD τ) none) Set.univ _ _ _ k0_t1_ok (point0 X) _ (Inv c arg0 arg1 arg2 X)
    (fun k p => inv_step c arg0 arg1 arg2 X k p)) $$ [HX HO HD]
  · unfold Inv
    isplitr; · ipureintro; rfl
    isplitl [HX]; · iexact HX
    isplitl [HD]; · iexact HD
    iexists _
    isplitl [HO]; · iexact HO
    ipureintro
    exact picked_succ X 0 O _ rfl _ (picked_zero X O)
  iintro %acc HI
  unfold Inv
  icases HI with ⟨-, HX, HD, %O', HO, %hO⟩
  rw [wp_pure]
  imodintro
  iapply HQ $$ HX [HO] [HD]
  · rw [← picked_all X O' ((show k0_t1_loop.trips + 1 = 8192 by rw [trips_eq]) ▸ hO)]
    iexact HO
  · iexists _; iexact HD

end Prog

end Cert.Fps

end
-- ==== Proof.TripEq.lean ====
/-
  THE TRIP AS THE PRINT CUTS IT. The printed kernel and the kernel of trips (`Body.lean`) have the same memory operations
  on the same values in the same order, so they are equal by computation — but for the conditional, whose window
  the print closes right after it: there the two differ by the associativity of sequencing. `tripCut` is the trip
  with that window closed, and `kernelCut` the kernel of such trips.
-/
module

public import proofs.«01_k».proof.Proof.Body

@[expose] public section

noncomputable section

namespace Cert.Fps

open Idealize.ShloMosaic Idealize.ShloMosaic.TcCoe
open Idealize.SL.Sem
open Cert.KernelIdeal (S8x128 S1176x128 S8192x128 S392x128 S1x128 S1x1 S1 S128 k0_t1_loop k0_off1)
open Cert.KernelIdeal.Facts₀

variable {F : FTy → Type} [FloatOps F]

section Nested

variable {nD : ℕ} {τ : Topo} {sig : RefSig} {Λ : Labels}

/-- What the print's last window hands over: the point, and two values its row is made from. -/
abbrev Handed (F : FTy → Type) : Type :=
  Σ' (_ : FVec F S1x1 .f32) (_ : FVec F S1x1 .f32) (_ : FVec F S1x1 .f32) (_ : IVec S1x128 1), BitVec 32

/-- The conditional with the window closed after it. -/
def tieCut (arg0 : Memref sig .tc .vmem S1176x128 .f32) (arg2 : Memref sig .tc .vmem S392x128 .f32)
    (v5 : FVec F S8x128 .f32) (v6 : IVec S1x128 32) (mb : FVec F S1x1 .f32) (n : FVec F S8x128 .f32) (q : Pt F) : Pg F nD τ sig Λ (Handed F) := do
  let w ← if tieBit n = 1#1 then tie arg0 arg2 v5 mb else pure q
  pure ⟨w.1, w.2.1, w.2.2, cmpi .eq v6 (broadcast S1x128 0#32), 1#32⟩

/-- The trip with the conditional's window closed after it, as the print cuts it. -/
def tripCut (arg0 : Memref sig .tc .vmem S1176x128 .f32) (arg1 : Memref sig .tc .vmem S8192x128 .f32)
    (arg2 : Memref sig .tc .vmem S392x128 .f32) (v5 : FVec F S8x128 .f32) (v6 : IVec S1x128 32)
    (off : Fin 2 → ℕ) (hoff : ∀ a, off a + S1x128.size a ≤ S8192x128.size a) (p : Pt F) : Pg F nD τ sig Λ (Pt F) := do
  let a ← scan arg0 arg2 p 25 0 (by omega) acc0
  let b ← scan arg0 arg2 p 24 25 (by omega) acc0
  let n ← count arg2 (maxOf (fold8 (join a b))) 49 0 (by omega) (broadcast S8x128 (Scalar.ofBits .f32 0x00000000#32))
  let ⟨w0, w1, w2, c, one⟩ : Handed F ← tieCut arg0 arg2 v5 v6 (maxOf (fold8 (join a b))) n (hits (fold8 (join a b)))
  let _ ← (Prog.lift (.load arg1 (Rect.unit (s := S8192x128) off S1x128.size hoff).toLoadRect (View.loadsAt_vmem h_S1x128)) : Pg F nD τ sig Λ (Vec F S1x128 .f32))
  (Prog.lift (.store arg1 (Rect.unit (s := S8192x128) off S1x128.size hoff)
    (select c (broadcastTo S1x128 (shapeCast S1x1 w0 shapeCasts_S1x1_S1x1) broadcasts_S1x1_S1x128)
      (select (cmpi .eq v6 (broadcast S1x128 one))
        (broadcastTo S1x128 (shapeCast S1x1 w1 shapeCasts_S1x1_S1x1) broadcasts_S1x1_S1x128)
        (broadcastTo S1x128 (shapeCast S1x1 w2 shapeCasts_S1x1_S1x1) broadcasts_S1x1_S1x128))) Finset.univ
    (View.stores_vmem_bits_univ h_S1x128 rfl) (.inl rfl)) : Pg F nD τ sig Λ PUnit)
  pure (w0, w1, w2)

theorem tripCut_eq (arg0 : Memref sig .tc .vmem S1176x128 .f32) (arg1 : Memref sig .tc .vmem S8192x128 .f32)
    (arg2 : Memref sig .tc .vmem S392x128 .f32) (v5 : FVec F S8x128 .f32) (v6 : IVec S1x128 32)
    (off : Fin 2 → ℕ) (hoff : ∀ a, off a + S1x128.size a ≤ S8192x128.size a) (p : Pt F) :
    (tripCut arg0 arg1 arg2 v5 v6 off hoff p : Pg F nD τ sig Λ (Pt F)) = trip arg0 arg1 arg2 v5 v6 off hoff p := by
  unfold tripCut trip
  refine bind_congr fun a => bind_congr fun b => bind_congr fun n => ?_
  unfold tieCut settle outRow
  by_cases h : tieBit n = 1#1
  · simp only [if_pos h, bind_assoc, pure_bind]
  · simp only [if_neg h, bind_assoc, pure_bind]

/-- The kernel of cut trips. -/
def kernelCut (arg0 : Memref sig .tc .vmem S1176x128 .f32) (arg1 : Memref sig .tc .vmem S8192x128 .f32) (arg2 : Memref sig .tc .vmem S392x128 .f32) :
    Pg F nD τ sig Λ PUnit :=
  kernelOf arg0 arg1 arg2 fun v5 v6 k p => tripCut arg0 arg1 arg2 v5 v6 (k0_off1 k) (k0_off1_inb k) p

theorem kernelCut_eq (arg0 : Memref sig .tc .vmem S1176x128 .f32) (arg1 : Memref sig .tc .vmem S8192x128 .f32) (arg2 : Memref sig .tc .vmem S392x128 .f32) :
    (kernelCut arg0 arg1 arg2 : Pg F nD τ sig Λ PUnit) = kernel arg0 arg1 arg2 := by
  unfold kernelCut kernel
  simp only [tripCut_eq]

end Nested

end Cert.Fps

end
-- ==== Proof.PrintedKernel.lean ====
/-
  THE PRINTED KERNEL IS THE KERNEL OF TRIPS, for the kernel: by computation up to the conditional's window
  (`TripEq.lean`).
-/
module

public import proofs.«01_k».proof.Proof.TripEq
public import proofs.«01_k».proof.Proof.Gen.Kernel
public import Idealize.ShloMosaic.Lib.Pipeline.Regions

@[expose] public section

set_option maxRecDepth 100000

noncomputable section

namespace Cert.Proof.Kernel

open Idealize.ShloMosaic Idealize.ShloMosaic.TcCoe
open Cert.Kernel Cert.Fps

variable {F : FTy → Type} [FloatOps F]

theorem printed_cut (arg0 : Memref sig .tc .vmem S1176x128 .f32) (harg0 : arg0.IsWhole) (arg1 : Memref sig .tc .vmem S8192x128 .f32) (harg1 : arg1.IsWhole)
    (arg2 : Memref sig .tc .vmem S392x128 .f32) (harg2 : arg2.IsWhole) :
    cc0__fps_body (F := F) arg0 harg0 arg1 harg1 arg2 harg2 = kernelCut (nD := nD) (τ := τ) (Λ := Λ₀) arg0 arg1 arg2 := by
  chain_rfl

theorem printed (arg0 : Memref sig .tc .vmem S1176x128 .f32) (harg0 : arg0.IsWhole) (arg1 : Memref sig .tc .vmem S8192x128 .f32) (harg1 : arg1.IsWhole)
    (arg2 : Memref sig .tc .vmem S392x128 .f32) (harg2 : arg2.IsWhole) :
    cc0__fps_body (F := F) arg0 harg0 arg1 harg1 arg2 harg2 = kernel (nD := nD) (τ := τ) (Λ := Λ₀) arg0 arg1 arg2 :=
  (printed_cut arg0 harg0 arg1 harg1 arg2 harg2).trans (kernelCut_eq arg0 arg1 arg2)

end Cert.Proof.Kernel

end
-- ==== Proof.RunKernel.lean ====
/-
  THE RUN of the kernel as written: the kernel's body as the pipeline calls it, once over whole windows, and the whole program
  around it. At the end the argument is as it was, every semaphore counter is zero, and the result is the first three
  columns of the picks of the staged points (`Body.lean` `stateV`).
-/
module

public import proofs.«01_k».proof.Proof.PrintedKernel
public import proofs.«01_k».proof.Proof.Gen.Kernel.Frame
public import Idealize.ShloMosaic.Lib.Pipeline.ValueKit.Geometry
public import Idealize.ShloMosaic.Lib.Pipeline.ValueKit.Point
public import Idealize.ShloMosaic.Lib.Pipeline.Quiescent
public import Idealize.ShloMosaic.Lib.Claim

@[expose] public section

noncomputable section

namespace Cert.Proof.Kernel

open Cert.Kernel Cert.Kernel.Gen Cert.Fps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged points of core `c`. -/
def pts (c : Dev nD) : Vec F S1176x128 .f32 := iblk m c 0 t0_0

/-- The proof data on core `c`: the arrays at their entry contents; after the body the points as staged and the result
    at all its picks; nothing kept of the scratch; nothing owed; the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => allPicks (pts m c)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_in (c : Dev nD) (d) : (dats m 0 c).before 0 t0_0 d = pts m c :=
  before0_0_of m (dats m 0 c) (A_eq m c 0) (fun t => by dsimp only [dats]) t0_0 d

theorem defs₀_row : defs₀ (F := F) .tc cfg0.body (cfg0.bodyArgs t0_0 (cfg0.slots t0_0))
    = kernel (nD := nD) (τ := τ) (Λ := Λ₀) (stage0_0 0) (stage0_1 0) (Memref.whole cc0_scratch0) := by
  unfold defs₀
  rw [Defs.onTc_tc]
  exact printed (F := F) (stage0_0 0) (hstage0_0 0) (stage0_1 0) (hstage0_1 0) (Memref.whole cc0_scratch0) (Memref.isWhole_whole _)

/-- The body's obligation: the points staged, the result and the scratch at anything; the kernel run; its picks. -/
theorem body_obligation (c : Dev nD) : BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA Dat.owesAt Pipeline.owesWithin
  rw [scopedRest0_eq]
  iintro ⟨⟨⟨%fs, Hs⟩, Hρ⟩, HO, ⟨%d0, %f0, %hf0, H0⟩, ⟨%d1, %f1, %hf1, H1⟩⟩
  rw [before_in] at hf0
  rw [defs₀_row]
  iapply (kernel_run c (stage0_0 0) (stage0_1 0) (Memref.whole cc0_scratch0) (pts m c) f1 fs)
  unfold has
  isplitl [H0]
  · iexists f0
    isplitl [H0]; · iexact H0
    ipureintro; exact hf0
  isplitl [H1]
  · iexists f1
    isplitl [H1]; · iexact H1
    ipureintro; rfl
  isplitl [Hs]
  · iexists fs
    isplitl [Hs]; · iexact Hs
    ipureintro; rfl
  iintro ⟨%g0, H0, %hg0⟩ ⟨%g1, H1, %hg1⟩ ⟨%D, %gs, Hs, -⟩
  isplitl [Hs Hρ]
  · isplitl [Hs]
    · iexists gs; iexact Hs
    iexact Hρ
  isplitl [HO]; · iexact HO
  isplitl [H0]
  · iexists g0
    isplitr; · ipureintro; exact hg0
    iexact H0
  iexists g1
  isplitr; · ipureintro; exact hg1
  iexact H1

/-- The run: every array at its final contents, every other unscoped buffer as the host lines leave it, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main (fun c => (body_obligation m c).loose)
    (fun c => (dats m 0 c).share_full fun _ => rfl) (fun _ _ => rfl) (V0 m) [hostOps1] sfx_sub sfx_fresh sfx_keeps (hmain m Variants.none)
    (A_eq m) (fun _ _ => rfl) (Q' := _)

/-- The argument is unchanged and every counter zero at the end. -/
theorem quiescent : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  θ_run_with_sems (Gen.frame_of m ρ (dats m) (A_eq m)) (run_main m ρ)

end Cert.Proof.Kernel

end
-- ==== Proof.PrintedKernelIdeal.lean ====
/-
  THE PRINTED KERNEL IS THE KERNEL OF TRIPS, for the idealized kernel: by computation up to the conditional's window
  (`TripEq.lean`).
-/
module

public import proofs.«01_k».proof.Proof.TripEq
public import proofs.«01_k».proof.Proof.Gen.KernelIdeal
public import Idealize.ShloMosaic.Lib.Pipeline.Regions

@[expose] public section

set_option maxRecDepth 100000

noncomputable section

namespace Cert.Proof.KernelIdeal

open Idealize.ShloMosaic Idealize.ShloMosaic.TcCoe
open Cert.KernelIdeal Cert.Fps

variable {F : FTy → Type} [FloatOps F]

theorem printed_cut (arg0 : Memref sig .tc .vmem S1176x128 .f32) (harg0 : arg0.IsWhole) (arg1 : Memref sig .tc .vmem S8192x128 .f32) (harg1 : arg1.IsWhole)
    (arg2 : Memref sig .tc .vmem S392x128 .f32) (harg2 : arg2.IsWhole) :
    cc0__fps_body (F := F) arg0 harg0 arg1 harg1 arg2 harg2 = kernelCut (nD := nD) (τ := τ) (Λ := Λ₀) arg0 arg1 arg2 := by
  chain_rfl

theorem printed (arg0 : Memref sig .tc .vmem S1176x128 .f32) (harg0 : arg0.IsWhole) (arg1 : Memref sig .tc .vmem S8192x128 .f32) (harg1 : arg1.IsWhole)
    (arg2 : Memref sig .tc .vmem S392x128 .f32) (harg2 : arg2.IsWhole) :
    cc0__fps_body (F := F) arg0 harg0 arg1 harg1 arg2 harg2 = kernel (nD := nD) (τ := τ) (Λ := Λ₀) arg0 arg1 arg2 :=
  (printed_cut arg0 harg0 arg1 harg1 arg2 harg2).trans (kernelCut_eq arg0 arg1 arg2)

end Cert.Proof.KernelIdeal

end
-- ==== Proof.RunKernelIdeal.lean ====
/-
  THE RUN of the idealized kernel: the kernel's body as the pipeline calls it, once over whole windows, and the whole program
  around it. At the end the argument is as it was, every semaphore counter is zero, and the result is the first three
  columns of the picks of the staged points (`Body.lean` `stateV`).
-/
module

public import proofs.«01_k».proof.Proof.PrintedKernelIdeal
public import proofs.«01_k».proof.Proof.Gen.KernelIdeal.Frame
public import Idealize.ShloMosaic.Lib.Pipeline.ValueKit.Geometry
public import Idealize.ShloMosaic.Lib.Pipeline.ValueKit.Point
public import Idealize.ShloMosaic.Lib.Pipeline.Quiescent
public import Idealize.ShloMosaic.Lib.Claim

@[expose] public section

noncomputable section

namespace Cert.Proof.KernelIdeal

open Cert.KernelIdeal Cert.KernelIdeal.Gen Cert.Fps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The staged points of core `c`. -/
def pts (c : Dev nD) : Vec F S1176x128 .f32 := iblk m c 0 t0_0

/-- The proof data on core `c`: the arrays at their entry contents; after the body the points as staged and the result
    at all its picks; nothing kept of the scratch; nothing owed; the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => allPicks (pts m c)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_in (c : Dev nD) (d) : (dats m 0 c).before 0 t0_0 d = pts m c :=
  before0_0_of m (dats m 0 c) (A_eq m c 0) (fun t => by dsimp only [dats]) t0_0 d

theorem defs₀_row : defs₀ (F := F) .tc cfg0.body (cfg0.bodyArgs t0_0 (cfg0.slots t0_0))
    = kernel (nD := nD) (τ := τ) (Λ := Λ₀) (stage0_0 0) (stage0_1 0) (Memref.whole cc0_scratch0) := by
  unfold defs₀
  rw [Defs.onTc_tc]
  exact printed (F := F) (stage0_0 0) (hstage0_0 0) (stage0_1 0) (hstage0_1 0) (Memref.whole cc0_scratch0) (Memref.isWhole_whole _)

/-- The body's obligation: the points staged, the result and the scratch at anything; the kernel run; its picks. -/
theorem body_obligation (c : Dev nD) : BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA Dat.owesAt Pipeline.owesWithin
  rw [scopedRest0_eq]
  iintro ⟨⟨⟨%fs, Hs⟩, Hρ⟩, HO, ⟨%d0, %f0, %hf0, H0⟩, ⟨%d1, %f1, %hf1, H1⟩⟩
  rw [before_in] at hf0
  rw [defs₀_row]
  iapply (kernel_run c (stage0_0 0) (stage0_1 0) (Memref.whole cc0_scratch0) (pts m c) f1 fs)
  unfold has
  isplitl [H0]
  · iexists f0
    isplitl [H0]; · iexact H0
    ipureintro; exact hf0
  isplitl [H1]
  · iexists f1
    isplitl [H1]; · iexact H1
    ipureintro; rfl
  isplitl [Hs]
  · iexists fs
    isplitl [Hs]; · iexact Hs
    ipureintro; rfl
  iintro ⟨%g0, H0, %hg0⟩ ⟨%g1, H1, %hg1⟩ ⟨%D, %gs, Hs, -⟩
  isplitl [Hs Hρ]
  · isplitl [Hs]
    · iexists gs; iexact Hs
    iexact Hρ
  isplitl [HO]; · iexact HO
  isplitl [H0]
  · iexists g0
    isplitr; · ipureintro; exact hg0
    iexact H0
  iexists g1
  isplitr; · ipureintro; exact hg1
  iexact H1

/-- The run: every array at its final contents, every other unscoped buffer as the host lines leave it, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main (fun c => (body_obligation m c).loose)
    (fun c => (dats m 0 c).share_full fun _ => rfl) (fun _ _ => rfl) (V0 m) [hostOps1] sfx_sub sfx_fresh sfx_keeps (hmain m Variants.none)
    (A_eq m) (fun _ _ => rfl) (Q' := _)

theorem result_arr (c : Dev nD) : (dats m 0 c).arrAt 1 cfg0.N = allPicks (pts m c) :=
  (dats m 0 c).arrAt_eq_of_after_last 1 t0_0 (by decide +kernel) (allPicks (pts m c)) (fun j => rfl)

/-- The result after the run: the first three columns of the picks. -/
theorem result_eq (c : Dev nD) : Pipeline.afterTail₀ cfgs (dats m) 0 (V0 m) [hostOps1] c main_v4
    = extractStridedSlice S8192x3 ![0, 0] (allPicks (pts m c)) slices_S8192x128_S8192x3_0_0 := by
  unfold Pipeline.afterTail₀
  simp only [List.flatten_cons, List.flatten_nil, List.append_nil]
  rw [StableHlo.after_cons, StableHlo.after_nil, StableHlo.unary_result]
  exact congrArg (extractStridedSlice S8192x3 ![0, 0] · slices_S8192x128_S8192x3_0_0)
    ((Pipeline.withArrays_arr spec0 launch0.win.arr_inj c (V0 m c) (fun w => (dats m 0 c).arrAt w cfg0.N) 1).trans (result_arr m c))

/-- The staged points: the argument transposed, each axis filled up with zeros, the axes one under the other. -/
theorem pts_eq (c : Dev nD) : pts m c = shapeCast S1176x128 (pad S3x50176 ![0, 0] ![0, 176] ![0, 0]
    (transpose S3x50000 [1, 0] (m ((c.tc : Thread nD τ).loc main_arg0) : Vec F S50000x3 .f32) transposes_S50000x3_S3x50000_1_0)
    (sitofp .f32 (constantI S_ 32 0#32)) pads_S3x50000_S3x50176_000_01760 h_S_) shapeCasts_S3x50176_S1176x128 := by
  have hV : V m c main_v2 = shapeCast S1176x128 (pad S3x50176 ![0, 0] ![0, 176] ![0, 0]
    (transpose S3x50000 [1, 0] (m ((c.tc : Thread nD τ).loc main_arg0) : Vec F S50000x3 .f32) transposes_S50000x3_S3x50000_1_0)
    (sitofp .f32 (constantI S_ 32 0#32)) pads_S3x50000_S3x50176_000_01760 h_S_) shapeCasts_S3x50176_S1176x128 := by
    unfold V V0
    simp only [List.flatten_cons, List.flatten_nil, List.append_nil, List.cons_append, List.nil_append]
    after_results
    rfl
  rw [← hV]
  unfold pts
  funext j
  blk_ext! [iblk, V]
  · exact (by show 0 * 1176 + _ = _; omega)
  · exact (by show 0 * 128 + _ = _; omega)

/-- The argument is unchanged and every counter zero at the end. -/
theorem quiescent : θ_run defs (onTc (τ := τ) (main (F := F))) (s₀ m ρ)
    (fun r => (∀ c : Dev nD, r.2.mem ((c.tc : Thread nD τ).loc main_arg0) = m ((c.tc : Thread nD τ).loc main_arg0)) ∧ r.2.sem = fun _ => 0) :=
  θ_run_with_sems (Gen.frame_of m ρ (dats m) (A_eq m)) (run_main m ρ)

/-- The result after the run, and the argument unchanged. -/
theorem run_value : θ_run defs (onTc (τ := τ) (main (F := F))) (s₀ m ρ)
    (fun r => ∀ c : Dev nD, r.2.mem ((c.tc : Thread nD τ).loc main_v4)
        = extractStridedSlice S8192x3 ![0, 0] (allPicks (pts m c)) slices_S8192x128_S8192x3_0_0
      ∧ r.2.mem ((c.tc : Thread nD τ).loc main_arg0) = m ((c.tc : Thread nD τ).loc main_arg0)) :=
  have h := run_main m ρ
  have q := quiescent m ρ
  ⟨fun t ht hf => fun c => ⟨((h.post t ht hf).1.rest_eq c main_v4 (Pipeline.mem_restRefs_of main_v4 (by decide) (by decide))).trans (result_eq m c),
    (q.post t ht hf).1 c⟩, h.progress, h.fair⟩

end Cert.Proof.KernelIdeal

end
-- ==== Proof.RefOps.lean ====
/-
  THE REFERENCE'S PROGRAM as lists of operations: the stretch before its loop, one pass of the loop (the distances, the
  index of the farthest point, the bookkeeping), the loop's test, and the stretch after it.
-/
module

public import proofs.«01_k».proof.Proof.Gen.ReferenceIdeal
public import Idealize.ShloMosaic.Lib.StableHlo.RunLoop
public import Idealize.ShloMosaic.Lib.Pipeline.Regions

@[expose] public section

noncomputable section

namespace Cert.Proof.Reference

open Cert.ReferenceIdeal Cert.ReferenceIdeal.Gen

open Idealize.ShloMosaic Idealize.ShloMosaic.TcCoe Idealize.SL.Sem

variable {F : FTy → Type} [FloatOps F]

/-- Before the loop: the first distances, the first indices, and the loop's first values. -/
abbrev preOps : List (HloOp τ sig (Elt F)) :=
  [ StableHlo.nullary main_cst (constant S_ .f32 0x7F800000#32),
    StableHlo.unary main_cst main_v0 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v1 (broadcastInDim S8192 ![] bcast_S_S8192 : (⟨S_, .i32⟩ : BufTy).Contents (Elt F) → (⟨S8192, .i32⟩ : BufTy).Contents (Elt F)),
    StableHlo.nullary main_c_0 (constantI S_ 32 0#32),
    StableHlo.unary main_c_0 main_v2 (broadcastInDim S1 ![] bcast_S_S1 : (⟨S_, .i32⟩ : BufTy).Contents (Elt F) → (⟨S1, .i32⟩ : BufTy).Contents (Elt F)),
    StableHlo.nullary main_c_1 (constantI S_ 32 0#32),
    StableHlo.ternary main_v1 main_v2 main_c_1 main_v3 ((fun x i u => Host.scatter scatter_S8192_S1_S__n_0_0_0 (fun _ b => b) x i u) : (⟨S8192, .i32⟩ : BufTy).Contents (Elt F) → (⟨S1, .i32⟩ : BufTy).Contents (Elt F) → (⟨S_, .i32⟩ : BufTy).Contents (Elt F) → (⟨S8192, .i32⟩ : BufTy).Contents (Elt F)),
    StableHlo.nullary main_c_2 (constantI S_ 32 1#32),
    StableHlo.nullary main_c_3 (constantI S_ 32 0#32),
    StableHlo.nullary main_c_4 (constantI S_ 32 0#32),
    StableHlo.unary main_arg0 main_v4_0 id,
    StableHlo.unary main_c_4 main_v4_1 id,
    StableHlo.unary main_c_2 main_v4_2 id,
    StableHlo.unary main_v3 main_v4_3 id,
    StableHlo.unary main_v0 main_v4_4 id,
    StableHlo.unary main_c_3 main_v4_5 id ]

theorem preOps_sub : (preOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.ternary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- The loop's test. -/
abbrev condOps : List (HloOp τ sig (Elt F)) :=
  [ StableHlo.nullary main_while0c_c_12 (constantI S_ 32 8191#32),
    StableHlo.binary main_v4_1 main_while0c_c_12 main_while0c_v12 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ StableHlo.tcRefs τ sig :=
  ⟨StableHlo.nullary_bufs_sub .., StableHlo.binary_bufs_sub ..⟩

/-- One pass, first part: the place of the last picked point. -/
abbrev idxOps : List (HloOp τ sig (Elt F)) :=
  [ StableHlo.nullary main_while0b_c_12 (constantI S_ 32 1#32),
    StableHlo.binary main_v4_2 main_while0b_c_12 main_while0b_v12 (addi : (⟨S_, .i32⟩ : BufTy).Contents (Elt F) → (⟨S_, .i32⟩ : BufTy).Contents (Elt F) → (⟨S_, .i32⟩ : BufTy).Contents (Elt F)),
    StableHlo.nullary main_while0b_c_13 (constantI S_ 32 0#32),
    StableHlo.binary main_v4_5 main_while0b_c_13 main_while0b_v13 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 50000#32),
    StableHlo.binary main_v4_5 main_while0b_c_14 main_while0b_v14 (addi : (⟨S_, .i32⟩ : BufTy).Contents (Elt F) → (⟨S_, .i32⟩ : BufTy).Contents (Elt F) → (⟨S_, .i32⟩ : BufTy).Contents (Elt F)),
    StableHlo.ternary main_while0b_v13 main_while0b_v14 main_v4_5 main_while0b_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_15 (constantI S_ 32 0#32),
    StableHlo.nullary main_while0b_c_16 (constantI S_ 32 0#32),
    StableHlo.binary main_while0b_c_15 main_while0b_c_16 main_while0b_v16 (cmpi .slt : (⟨S_, .i32⟩ : BufTy).Contents (Elt F) → (⟨S_, .i32⟩ : BufTy).Contents (Elt F) → (⟨S_, .i1⟩ : BufTy).Contents (Elt F)),
    StableHlo.nullary main_while0b_c_17 (constantI S_ 32 0#32),
    StableHlo.nullary main_while0b_c_18 (constantI S_ 32 3#32),
    StableHlo.binary main_while0b_c_17 main_while0b_c_18 main_while0b_v17 (addi : (⟨S_, .i32⟩ : BufTy).Contents (Elt F) → (⟨S_, .i32⟩ : BufTy).Contents (Elt F) → (⟨S_, .i32⟩ : BufTy).Contents (Elt F)),
    StableHlo.nullary main_while0b_c_19 (constantI S_ 32 0#32),
    StableHlo.ternary main_while0b_v16 main_while0b_v17 main_while0b_c_19 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

theorem idxOps_sub : (idxOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub ..⟩

/-- One pass, second part: the distances after the last picked point. -/
abbrev distOps : List (HloOp τ sig (Elt F)) :=
  [ StableHlo.unaryIndexed main_v4_0 ![main_while0b_v15, main_while0b_v18] ⟨S_, .i32⟩ main_while0b_v19 ((fun x i => Host.dynamicSlice S1x3 x (fun k => (i k (Shape.Idx.first h_S_)).toInt) sliceFits_S50000x3_S1x3) : (⟨S50000x3, .f32⟩ : BufTy).Contents (Elt F) → (Fin 2 → (⟨S_, .i32⟩ : BufTy).Contents (Elt F)) → (⟨S1x3, .f32⟩ : BufTy).Contents (Elt F)),
    StableHlo.reshape main_while0b_v19 main_while0b_v20 (rfl : (.f32 : EltTy) = .f32) shapeCasts_S1x3_S3,
    StableHlo.unary main_while0b_v20 main_while0b_v21 (broadcastInDim S1x3 ![1] bcast_S3_S1x3_1 : (⟨S3, .f32⟩ : BufTy).Contents (Elt F) → (⟨S1x3, .f32⟩ : BufTy).Contents (Elt F)),
    StableHlo.unary main_while0b_v21 main_while0b_v22 (broadcastInDim S50000x3 ![0, 1] bcast_S1x3_S50000x3_0_1 : (⟨S1x3, .f32⟩ : BufTy).Contents (Elt F) → (⟨S50000x3, .f32⟩ : BufTy).Contents (Elt F)),
    StableHlo.binary main_v4_0 main_while0b_v22 main_while0b_v23 (subf : (⟨S50000x3, .f32⟩ : BufTy).Contents (Elt F) → (⟨S50000x3, .f32⟩ : BufTy).Contents (Elt F) → (⟨S50000x3, .f32⟩ : BufTy).Contents (Elt F)),
    StableHlo.binary main_while0b_v23 main_while0b_v23 main_while0b_v24 (mulf : (⟨S50000x3, .f32⟩ : BufTy).Contents (Elt F) → (⟨S50000x3, .f32⟩ : BufTy).Contents (Elt F) → (⟨S50000x3, .f32⟩ : BufTy).Contents (Elt F)),
    StableHlo.nullary main_while0b_cst_20 (constant S_ .f32 0x00000000#32),
    StableHlo.binary main_while0b_v24 main_while0b_cst_20 main_while0b_v25 ((fun x v => Host.reduceAdd x v reducesTo_S50000x3_S50000_d1 h_S_) : (⟨S50000x3, .f32⟩ : BufTy).Contents (Elt F) → (⟨S_, .f32⟩ : BufTy).Contents (Elt F) → (⟨S50000, .f32⟩ : BufTy).Contents (Elt F)),
    StableHlo.binary main_v4_4 main_while0b_v25 main_while0b_v26 (minimumf : (⟨S50000, .f32⟩ : BufTy).Contents (Elt F) → (⟨S50000, .f32⟩ : BufTy).Contents (Elt F) → (⟨S50000, .f32⟩ : BufTy).Contents (Elt F)) ]

theorem distOps_sub : (distOps : List (HloOp τ sig (Elt F))).Forall fun op => op.bufs ⊆ StableHlo.tcRefs τ sig :=
  ⟨StableHlo.unaryIndexed_bufs_sub .., StableHlo.reshape_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub ..⟩

/-- One pass, third part: the first index of the largest distance. -/
abbrev farOps : List (HloOp τ sig (Elt F)) :=
  [ StableHlo.TRef.nullary main_while0b_call0.v0 (iotaInDim S50000 32 0),
    StableHlo.TRef.nullary main_while0b_call0.cst (constant S_ .f32 0xFF800000#32),
    StableHlo.TRef.nullary main_while0b_call0.c (constantI S_ 32 0#32),
    StableHlo.TRef.quaternary (.of main_while0b_v26) main_while0b_call0.v0 main_while0b_call0.cst main_while0b_call0.c main_while0b_call0.v1_0 (fun x y u v j => (Host.argReduce reducer_argmax_f32_i32 x y u v reducesTo_S50000_S_d0 h_S_ j).1),
    StableHlo.TRef.quaternary (.of main_while0b_v26) main_while0b_call0.v0 main_while0b_call0.cst main_while0b_call0.c main_while0b_call0.v1_1 (fun x y u v j => (Host.argReduce reducer_argmax_f32_i32 x y u v reducesTo_S50000_S_d0 h_S_ j).2) ]

theorem farOps_sub : (farOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- One pass, fourth part: the index noted, the counters raised, the values handed to the next pass. -/
abbrev noteOps : List (HloOp τ sig (Elt F)) :=
  [ StableHlo.nullary main_while0b_c_21 (constantI S_ 32 0#32),
    StableHlo.binary main_v4_2 main_while0b_c_21 main_while0b_v28 (cmpi .slt : (⟨S_, .i32⟩ : BufTy).Contents (Elt F) → (⟨S_, .i32⟩ : BufTy).Contents (Elt F) → (⟨S_, .i1⟩ : BufTy).Contents (Elt F)),
    StableHlo.nullary main_while0b_c_22 (constantI S_ 32 8192#32),
    StableHlo.binary main_v4_2 main_while0b_c_22 main_while0b_v29 (addi : (⟨S_, .i32⟩ : BufTy).Contents (Elt F) → (⟨S_, .i32⟩ : BufTy).Contents (Elt F) → (⟨S_, .i32⟩ : BufTy).Contents (Elt F)),
    StableHlo.ternary main_while0b_v28 main_while0b_v29 main_v4_2 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v30 main_while0b_v31 (id : (⟨S_, .i32⟩ : BufTy).Contents (Elt F) → (⟨S_, .i32⟩ : BufTy).Contents (Elt F)),
    StableHlo.unary main_while0b_v31 main_while0b_v32 (broadcastInDim S1 ![] bcast_S_S1 : (⟨S_, .i32⟩ : BufTy).Contents (Elt F) → (⟨S1, .i32⟩ : BufTy).Contents (Elt F)),
    StableHlo.ternary main_v4_3 main_while0b_v32 main_while0b_v27 main_while0b_v33 ((fun x i u => Host.scatter scatter_S8192_S1_S__n_0_0_0 (fun _ b => b) x i u) : (⟨S8192, .i32⟩ : BufTy).Contents (Elt F) → (⟨S1, .i32⟩ : BufTy).Contents (Elt F) → (⟨S_, .i32⟩ : BufTy).Contents (Elt F) → (⟨S8192, .i32⟩ : BufTy).Contents (Elt F)),
    StableHlo.nullary main_while0b_c_23 (constantI S_ 32 1#32),
    StableHlo.binary main_v4_1 main_while0b_c_23 main_while0b_v34 (addi : (⟨S_, .i32⟩ : BufTy).Contents (Elt F) → (⟨S_, .i32⟩ : BufTy).Contents (Elt F) → (⟨S_, .i32⟩ : BufTy).Contents (Elt F)),
    StableHlo.unary main_while0b_v34 main_v4_1 id,
    StableHlo.unary main_while0b_v12 main_v4_2 id,
    StableHlo.unary main_while0b_v33 main_v4_3 id,
    StableHlo.unary main_while0b_v26 main_v4_4 id,
    StableHlo.unary main_while0b_v27 main_v4_5 id ]

theorem noteOps_sub : (noteOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-- After the loop: the rows of the points at the picked indices. -/
abbrev postOps : List (HloOp τ sig (Elt F)) :=
  [ StableHlo.nullary main_c_5 (constantI S_ 32 0#32),
    StableHlo.unary main_c_5 main_v5 (broadcastInDim S8192 ![] bcast_S_S8192 : (⟨S_, .i32⟩ : BufTy).Contents (Elt F) → (⟨S8192, .i32⟩ : BufTy).Contents (Elt F)),
    StableHlo.binary main_v4_3 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 50000#32),
    StableHlo.unary main_c_6 main_v7 (broadcastInDim S8192 ![] bcast_S_S8192 : (⟨S_, .i32⟩ : BufTy).Contents (Elt F) → (⟨S8192, .i32⟩ : BufTy).Contents (Elt F)),
    StableHlo.binary main_v4_3 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_v4_3 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.binary main_arg0 main_v10 main_v11 ((fun x i => Host.gather gather_S50000x3_S8192x1_S8192x3_1_0_n_n_0_1_13 x i) : (⟨S50000x3, .f32⟩ : BufTy).Contents (Elt F) → (⟨S8192x1, .i32⟩ : BufTy).Contents (Elt F) → (⟨S8192x3, .f32⟩ : BufTy).Contents (Elt F)) ]

theorem postOps_sub : (postOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

theorem main_eq (c : Dev nD) : main (F := F) c = Pipeline.chain
    (([preOps].map fun ops => (StableHlo.seq ops : Prog _ PUnit)) ++ HostLoop.enter 0 :: [postOps].map fun ops => (StableHlo.seq ops : Prog _ PUnit)) := by
  chain_rfl

theorem body_eq : main_while0_body (F := F) = Pipeline.chain
    ([idxOps, distOps, farOps, noteOps].map fun ops => (StableHlo.seq ops : Prog _ PUnit)) := by
  chain_rfl

end Cert.Proof.Reference

end
-- ==== Proof.RefRun.lean ====
/-
  THE RUN of the reference: 8191 passes of its loop, each the distances after the last picked point, the first index of the
  largest one, and that index noted. At the end the argument is as it was, every counter is zero, and the result is the rows
  of the points at the noted indices.
-/
module

public import proofs.«01_k».proof.Proof.RefOps
public import Idealize.ShloMosaic.Lib.Quiescent
public import Idealize.ShloMosaic.Lib.StableHlo.RunRead

@[expose] public section

noncomputable section

namespace Cert.Proof.Reference

open Cert.ReferenceIdeal Cert.ReferenceIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An index as the program reads it: a negative one counts from the end of `n` entries. -/
def wrap {s : Shape} (n : BitVec 32) (i : Vec F s .i32) : Vec F s .i32 :=
  fun j => Scalar.select (IntOp.cmpi .slt (i j) 0#32) (IntOp.addi (i j) n) (i j)

/-- The row of the points at a (wrapped) index. -/
def rowAt (P : Vec F S50000x3 .f32) (last : Vec F S_ .i32) : Vec F S3 .f32 :=
  shapeCast S3 (Host.dynamicSlice S1x3 P
    (fun k => ((![wrap (F := F) 50000#32 last, fun _ => 0#32] : Fin 2 → Vec F S_ .i32) k (Shape.Idx.first h_S_)).toInt) sliceFits_S50000x3_S1x3)
    shapeCasts_S1x3_S3

/-- The differences of all points to the row at `last`. -/
def diffs (P : Vec F S50000x3 .f32) (last : Vec F S_ .i32) : Vec F S50000x3 .f32 :=
  subf P (broadcastInDim S50000x3 ![0, 1] bcast_S1x3_S50000x3_0_1 (broadcastInDim S1x3 ![1] bcast_S3_S1x3_1 (rowAt P last)))

/-- The distances after the point at `last`. -/
def nextD (P : Vec F S50000x3 .f32) (last : Vec F S_ .i32) (D : Vec F S50000 .f32) : Vec F S50000 .f32 :=
  minimumf D (Host.reduceAdd (mulf (diffs P last) (diffs P last)) (constant S_ .f32 0x00000000#32) reducesTo_S50000x3_S50000_d1 h_S_)

/-- The first index of the largest distance. -/
def farthest (D : Vec F S50000 .f32) : Vec F S_ .i32 := fun j =>
  (Host.argReduce reducer_argmax_f32_i32 D (iotaInDim S50000 32 0) (constant S_ .f32 0xFF800000#32) (constantI S_ 32 0#32) reducesTo_S50000_S_d0 h_S_ j).2

/-- The indices with `last` noted at place `i`. -/
def note (I : Vec F S8192 .i32) (i last : Vec F S_ .i32) : Vec F S8192 .i32 :=
  Host.scatter scatter_S8192_S1_S__n_0_0_0 (fun _ b => b) I (broadcastInDim S1 ![] bcast_S_S1 (wrap (F := F) 8192#32 i)) last

/-- Distances, last index and noted indices after `k` passes. -/
def refState (P : Vec F S50000x3 .f32) : ℕ → Vec F S50000 .f32 × Vec F S_ .i32 × Vec F S8192 .i32
  | 0 => (broadcastInDim S50000 ![] bcast_S_S50000 (constant S_ .f32 0x7F800000#32), constantI S_ 32 0#32,
      Host.scatter scatter_S8192_S1_S__n_0_0_0 (fun _ b => b) (broadcastInDim S8192 ![] bcast_S_S8192 (constantI S_ 32 0#32))
        (broadcastInDim S1 ![] bcast_S_S1 (constantI S_ 32 0#32)) (constantI S_ 32 0#32))
  | k + 1 =>
    let s := refState P k
    (nextD P s.2.1 s.1, farthest (nextD P s.2.1 s.1), note s.2.2 (fun _ => BitVec.ofNat 32 (k + 1)) (farthest (nextD P s.2.1 s.1)))

/-- The rows of the points at the noted indices. -/
def refRows (P : Vec F S50000x3 .f32) (I : Vec F S8192 .i32) : Vec F S8192x3 .f32 :=
  Host.gather gather_S50000x3_S8192x1_S8192x3_1_0_n_n_0_1_13 P (broadcastInDim S8192x1 ![0] bcast_S8192_S8192x1_0 (wrap (F := F) 50000#32 I))

section Pass
variable (V : Valuation τ sig (Elt F))

theorem idx_row : StableHlo.after idxOps V main_while0b_v15 = wrap (F := F) 50000#32 (V main_v4_5) := by
  after_results
  rfl

theorem idx_col : StableHlo.after idxOps V main_while0b_v18 = fun _ => 0#32 := by
  after_results
  rfl

/-- What the distances' stretch computes from a place. -/
def fromPlace (P : Vec F S50000x3 .f32) (i : Fin 2 → Vec F S_ .i32) (D : Vec F S50000 .f32) : Vec F S50000 .f32 :=
  let d := subf P (broadcastInDim S50000x3 ![0, 1] bcast_S1x3_S50000x3_0_1 (broadcastInDim S1x3 ![1] bcast_S3_S1x3_1
    (shapeCast S3 (Host.dynamicSlice S1x3 P (fun k => (i k (Shape.Idx.first h_S_)).toInt) sliceFits_S50000x3_S1x3) shapeCasts_S1x3_S3)))
  minimumf D (Host.reduceAdd (mulf d d) (constant S_ .f32 0x00000000#32) reducesTo_S50000x3_S50000_d1 h_S_)

theorem dist_D : StableHlo.after distOps V main_while0b_v26
    = fromPlace (V main_v4_0) (![(V main_while0b_v15 : Vec F S_ .i32), (V main_while0b_v18 : Vec F S_ .i32)] : Fin 2 → Vec F S_ .i32) (V main_v4_4) := by
  have hk : ∀ (k : Fin 2) (h : (Proc.devRef (τ := τ) .tc ((![main_while0b_v15, main_while0b_v18] : Fin 2 → Ref sig .tc) k)).ty.Contents (Elt F)
      = (⟨S_, .i32⟩ : BufTy).Contents (Elt F)),
      cast h (V (Proc.devRef .tc ((![main_while0b_v15, main_while0b_v18] : Fin 2 → Ref sig .tc) k)))
        = (![(V main_while0b_v15 : Vec F S_ .i32), (V main_while0b_v18 : Vec F S_ .i32)] : Fin 2 → Vec F S_ .i32) k
    | 0, _ => rfl
    | 1, _ => rfl
  after_results
  simp only [hk]
  rfl

theorem far_L : StableHlo.after farOps V main_while0b_v27 = farthest (V main_while0b_v26) := by
  after_results
  rfl

theorem note_I : StableHlo.after noteOps V main_v4_3 = note (V main_v4_3) (V main_v4_2) (V main_while0b_v27) := by
  after_results
  rfl

/-- The stretches of one pass, in order. -/
abbrev pass : List (List (HloOp τ sig (Elt F))) := [idxOps, distOps, farOps, noteOps]

theorem pass_points : StableHlo.afterL pass (StableHlo.after condOps V) main_v4_0 = V main_v4_0 := by
  simp only [StableHlo.afterL_cons, StableHlo.afterL_nil]
  after_results

theorem pass_arg : StableHlo.afterL pass (StableHlo.after condOps V) main_arg0 = V main_arg0 := by
  simp only [StableHlo.afterL_cons, StableHlo.afterL_nil]
  after_results

theorem pass_count : StableHlo.afterL pass (StableHlo.after condOps V) main_v4_1 = fun j => IntOp.addi (V main_v4_1 j) 1#32 := by
  simp only [StableHlo.afterL_cons, StableHlo.afterL_nil]
  after_results
  rfl

theorem pass_place : StableHlo.afterL pass (StableHlo.after condOps V) main_v4_2 = fun j => IntOp.addi (V main_v4_2 j) 1#32 := by
  simp only [StableHlo.afterL_cons, StableHlo.afterL_nil]
  after_results
  rfl

theorem note_D : StableHlo.after noteOps V main_v4_4 = V main_while0b_v26 := by
  after_results
  rfl

theorem note_L : StableHlo.after noteOps V main_v4_5 = V main_while0b_v27 := by
  after_results
  rfl

theorem far_D : StableHlo.after farOps V main_while0b_v26 = V main_while0b_v26 := by
  after_results

/-- What a pass finds before its distances. -/
abbrev placed : Valuation τ sig (Elt F) := StableHlo.after idxOps (StableHlo.after condOps V)

theorem placed_D : StableHlo.after distOps (placed V) main_while0b_v26 = nextD (V main_v4_0) (V main_v4_5) (V main_v4_4) := by
  have h0 : placed V main_v4_0 = V main_v4_0 := by after_results
  have h4 : placed V main_v4_4 = V main_v4_4 := by after_results
  have h5 : StableHlo.after condOps V main_v4_5 = V main_v4_5 := by after_results
  have hr : placed V main_while0b_v15 = wrap (F := F) 50000#32 (V main_v4_5) := (idx_row _).trans (congrArg (wrap (F := F) 50000#32) h5)
  have hl : placed V main_while0b_v18 = fun _ => 0#32 := idx_col _
  rw [dist_D, h0, h4, hr, hl]
  rfl

theorem pass_D : StableHlo.afterL pass (StableHlo.after condOps V) main_v4_4 = nextD (V main_v4_0) (V main_v4_5) (V main_v4_4) := by
  simp only [StableHlo.afterL_cons, StableHlo.afterL_nil]
  rw [note_D, far_D, placed_D]

theorem pass_L : StableHlo.afterL pass (StableHlo.after condOps V) main_v4_5
    = farthest (nextD (V main_v4_0) (V main_v4_5) (V main_v4_4)) := by
  simp only [StableHlo.afterL_cons, StableHlo.afterL_nil]
  rw [note_L, far_L, placed_D]

theorem pass_I : StableHlo.afterL pass (StableHlo.after condOps V) main_v4_3
    = note (V main_v4_3) (V main_v4_2) (farthest (nextD (V main_v4_0) (V main_v4_5) (V main_v4_4))) := by
  have h3 : StableHlo.after farOps (StableHlo.after distOps (placed V)) main_v4_3 = V main_v4_3 := by after_results
  have h2 : StableHlo.after farOps (StableHlo.after distOps (placed V)) main_v4_2 = V main_v4_2 := by after_results
  simp only [StableHlo.afterL_cons, StableHlo.afterL_nil]
  rw [note_I, h3, h2, far_L, placed_D]

end Pass

section Run
variable (m : (ℓ : Loc nD τ sig) → Buf (Elt F) ℓ) (ρ : Dev nD → PrngReg)

/-- The points of core `c`. -/
abbrev given (c : Dev nD) : Vec F S50000x3 .f32 := m ((c.tc : Thread nD τ).loc main_arg0)

/-- All buffers before pass `k`. -/
abbrev before (k : ℕ) (c : Dev nD) : Valuation τ sig (Elt F) := StableHlo.atTrip condOps pass (StableHlo.entryContents [preOps] m) k c

theorem before_arg (c : Dev nD) : ∀ k, before m k c main_arg0 = given m c
  | 0 => by
    show StableHlo.after preOps (StableHlo.launchContents m c) main_arg0 = _
    after_results
  | k + 1 => by rw [before, StableHlo.atTrip_succ, pass_arg]; exact before_arg c k

theorem before_points (c : Dev nD) : ∀ k, before m k c main_v4_0 = given m c
  | 0 => by
    show StableHlo.after preOps (StableHlo.launchContents m c) main_v4_0 = _
    after_results
    rfl
  | k + 1 => by rw [before, StableHlo.atTrip_succ, pass_points]; exact before_points c k

theorem before_count (c : Dev nD) : ∀ k, before m k c main_v4_1 = fun _ => BitVec.ofNat 32 k
  | 0 => by
    show StableHlo.after preOps (StableHlo.launchContents m c) main_v4_1 = _
    after_results
    rfl
  | k + 1 => by
    rw [before, StableHlo.atTrip_succ, pass_count]
    funext j
    rw [show StableHlo.atTrip condOps pass (StableHlo.entryContents [preOps] m) k c main_v4_1 = _ from before_count c k]
    exact (BitVec.ofNat_add_ofNat k 1).symm ▸ rfl

theorem before_place (c : Dev nD) : ∀ k, before m k c main_v4_2 = fun _ => BitVec.ofNat 32 (k + 1)
  | 0 => by
    show StableHlo.after preOps (StableHlo.launchContents m c) main_v4_2 = _
    after_results
    rfl
  | k + 1 => by
    rw [before, StableHlo.atTrip_succ, pass_place]
    funext j
    rw [show StableHlo.atTrip condOps pass (StableHlo.entryContents [preOps] m) k c main_v4_2 = _ from before_place c k]
    exact (BitVec.ofNat_add_ofNat (k + 1) 1).symm ▸ rfl

/-- Distances, last index and noted indices before pass `k`. -/
theorem before_state (c : Dev nD) : ∀ k, (before m k c main_v4_4 : Vec F S50000 .f32) = (refState (given m c) k).1
      ∧ (before m k c main_v4_5 : Vec F S_ .i32) = (refState (given m c) k).2.1
      ∧ (before m k c main_v4_3 : Vec F S8192 .i32) = (refState (given m c) k).2.2
  | 0 => by
    refine ⟨?_, ?_, ?_⟩
    · show StableHlo.after preOps (StableHlo.launchContents m c) main_v4_4 = _
      after_results
      rfl
    · show StableHlo.after preOps (StableHlo.launchContents m c) main_v4_5 = _
      after_results
      rfl
    · show StableHlo.after preOps (StableHlo.launchContents m c) main_v4_3 = _
      after_results
      simp only [refState, id]
  | k + 1 => by
    obtain ⟨h4, h5, h3⟩ := before_state c k
    have h0 := before_points m c k
    have h2 := before_place m c k
    unfold before at h4 h5 h3 h0 h2 ⊢
    rw [StableHlo.atTrip_succ, pass_D, pass_L, pass_I, h0, h2, h3, h4, h5]
    simp only [refState]
    exact ⟨trivial, trivial, rfl⟩

/-- The loop's test before pass `k`. -/
theorem test_iff {k : ℕ} (hk : k ≤ 8191) : IntOp.cmpi .slt (BitVec.ofNat 32 k) 8191#32 = 1#1 ↔ k < 8191 := by
  show BitVec.ofBool ((BitVec.ofNat 32 k).slt 8191#32) = 1#1 ↔ _
  have h : (BitVec.ofNat 32 k).slt 8191#32 = decide (k < 8191) := by
    rw [BitVec.slt, BitVec.toInt_ofNat', BitVec.toInt_ofNat']
    simp only [Int.bmod]
    congr 1
    apply propext
    omega
  rw [h]
  by_cases hlt : k < 8191 <;> simp [hlt]

theorem cond_spec : StableHlo.CondSpec (pcfgs (F := F)) defs₀ loops main_while0_cond condOps pass (StableHlo.entryContents [preOps] m) 8191 := by
  intro k hk c bd
  have hc := before_count m c k
  unfold before at hc
  simp only [main_while0_cond, bind_pure]
  rw [wp_bind]
  iintro ⟨Hb, Hh⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  erw [HostLoop.elt_apply, wp_ret]; imodintro
  isplitr
  · ipureintro
    show Iff (IntOp.cmpi .slt (HloOp.result _ (StableHlo.atTrip condOps pass (StableHlo.entryContents [preOps] m) k c) main_v4_1 HostLoop.idx0)
        (HloOp.result _ (StableHlo.atTrip condOps pass (StableHlo.entryContents [preOps] m) k c) main_while0c_c_12 HostLoop.idx0) = 1#1) (k < 8191)
    rw [StableHlo.nullary_result_ne _ _ _ _ (by decide), StableHlo.nullary_result, hc]
    exact test_iff hk
  isplitl [Hb]; · iexact Hb
  rw [StableHlo.after_cons, StableHlo.after_cons, StableHlo.after_nil]; iexact Hh

/-- The result and the argument after the run. -/
theorem run_value : θ_run (defs (F := F)) (onTc (τ := τ) main) ⟨m, fun _ => 0, ρ⟩
    (fun r => ∀ c : Dev nD, (r.2.mem ((c.tc : Thread nD τ).loc main_v11) : Vec F S8192x3 .f32) = refRows (given m c) (refState (given m c) 8191).2.2
      ∧ r.2.mem ((c.tc : Thread nD τ).loc main_arg0) = m ((c.tc : Thread nD τ).loc main_arg0)) := by
  refine (θ_run _ _ _).mono (fun r h c => ?_) (StableHlo.run_loop pcfgs defs₀ loops main 0 main_while0_cond main_while0_body rfl
    [preOps] pass [postOps] condOps (.cons preOps_sub .nil) (.cons idxOps_sub (.cons distOps_sub (.cons farOps_sub (.cons noteOps_sub .nil))))
    (.cons postOps_sub .nil) main_eq body_eq 8191 m ρ (cond_spec m))
  have hl : ∀ V : Valuation τ sig (Elt F), StableHlo.after postOps (StableHlo.after condOps V) main_v11
      = refRows (V main_arg0) (V main_v4_3) := by
    intro V
    after_results
    rfl
  have ha : ∀ V : Valuation τ sig (Elt F), StableHlo.after postOps (StableHlo.after condOps V) main_arg0 = V main_arg0 := by
    intro V
    after_results
  constructor
  · rw [h c main_v11 rfl]
    refine (hl (before m 8191 c)).trans ?_
    rw [before_arg, (before_state m c 8191).2.2]
  · rw [h c main_arg0 rfl]
    refine (ha (before m 8191 c)).trans ?_
    rw [before_arg]

/-- The argument is unchanged and every counter zero at the end. -/
theorem quiescent : θ_run (defs (F := F)) (onTc (τ := τ) main) ⟨m, fun _ => 0, ρ⟩
    (fun r => (∀ c : Dev nD, r.2.mem ((c.tc : Thread nD τ).loc main_arg0) = m ((c.tc : Thread nD τ).loc main_arg0)) ∧ r.2.sem = fun _ => 0) :=
  (θ_run _ _ _).mono (fun r h => ⟨fun c => (h c).2, sem_eq_zero_of_no_sems (by decide) r.2⟩) (run_value m ρ)

end Run

end Cert.Proof.Reference

end
-- ==== Proof.Cells.lean ====
/-
  THE CELLS of the running minimum. Its 392 rows of 128 lanes are 49 blocks of eight rows; a cell is a block number and a
  position in the block, its flat index `128 * row + lane` is the index of its point, and the cells with a flat index below
  50000 are the points. Here: the loads and stores of a block read at its positions, sums over all cells, and the
  comparisons, selections and reductions of the kernel at exact values.
-/
module

public import proofs.«01_k».proof.Proof.Body
public import Idealize.ShloMosaic.Lib.ValueIdx
public import Idealize.ShloMosaic.PureOps.Ideal.Laws

@[expose] public section

noncomputable section

namespace Cert.Fps

open Idealize.ShloMosaic Idealize.ShloMosaic.ValueIdx
open Cert.KernelIdeal (S8x128 S1176x128 S8192x128 S392x128 S1x128 S1x1 S1 S128)
open Cert.KernelIdeal.Facts₀

/-! ## Cells -/

/-- A cell of the running minimum, -/
abbrev Cell : Type := S392x128.Idx
/-- and a position in a block. -/
abbrev Pos : Type := S8x128.Idx

/-- The cell of block `b` at position `j` (the row taken modulo 392, so that the function is total). -/
def cell (b : ℕ) (j : Pos) : Cell := ix2 ⟨(8 * b + (j 0).val) % 392, Nat.mod_lt _ (by decide)⟩ (j 1)

/-- The index of a cell's point. -/
def flat (i : Cell) : ℕ := 128 * (i 0).val + (i 1).val

/-- The place of a cell in plane `o` of the stacked points. -/
def inPlane (o : ℕ) (ho : o ≤ 784) (i : Cell) : S1176x128.Idx :=
  ix2 ⟨o + (i 0).val, by have := idx2_lt0 i; omega⟩ (i 1)

theorem cell_row {b : ℕ} (h : b < 49) (j : Pos) : ((cell b j) 0).val = 8 * b + (j 0).val := by
  have := idx2_lt0 j
  exact Nat.mod_eq_of_lt (by omega)

theorem cell_lane (b : ℕ) (j : Pos) : (cell b j) 1 = j 1 := rfl

/-- Two cells are equal when their coordinates are. -/
theorem cell_ext {i i' : Cell} (h0 : (i 0).val = (i' 0).val) (h1 : (i 1).val = (i' 1).val) : i = i' := by
  funext a; match a with
  | 0 => exact Fin.ext h0
  | 1 => exact Fin.ext h1

theorem flat_inj {i i' : Cell} (h : flat i = flat i') : i = i' := by
  have := idx2_lt1 i; have := idx2_lt1 i'
  unfold flat at h
  exact cell_ext (by omega) (by omega)

theorem flat_lt (i : Cell) : flat i < 50176 := by
  have := idx2_lt1 i; have := idx2_lt0 i
  unfold flat; omega

theorem rD_emb {b : ℕ} (h : b < 49) (j : Pos) : (rD b h).emb j = cell b j := by
  refine cell_ext ?_ ?_
  · rw [cell_row h]; show 8 * b + 1 * (j 0).val = _; omega
  · show 0 + 1 * (j 1).val = (j 1).val; omega

theorem rX_emb {b : ℕ} (h : b < 49) {o : ℕ} (ho : o ≤ 784) (j : Pos) : (rX o ho b h).emb j = inPlane o ho (cell b j) := by
  funext a; match a with
  | 0 =>
    apply Fin.ext
    show o + 8 * b + 1 * (j 0).val = o + ((cell b j) 0).val
    rw [cell_row h]; omega
  | 1 => apply Fin.ext; show 0 + 1 * (j 1).val = (j 1).val; omega

/-- The position of a cell in its block. -/
def posOf (i : Cell) : Pos := ix2 ⟨(i 0).val % 8, Nat.mod_lt _ (by decide)⟩ (i 1)

theorem cell_posOf (i : Cell) : cell ((i 0).val / 8) (posOf i) = i := by
  have := idx2_lt0 i
  refine cell_ext ?_ rfl
  rw [cell_row (by omega)]; show 8 * ((i 0).val / 8) + (i 0).val % 8 = _; omega

/-! ## Sums -/

/-- The sum over all cells, block by block. -/
theorem sum_cells (f : Cell → EReal) :
    ∑ i : Cell, f i = ∑ b ∈ Finset.range 49, ∑ j : Pos, f (cell b j) := by
  rw [sum_idx2 (n0 := 392) (n1 := 128) f, Finset.sum_range]
  rw [← (finProdFinEquiv (m := 49) (n := 8)).sum_comp (fun a : Fin 392 => ∑ l : Fin 128, f (ix2 a l)), Fintype.sum_prod_type]
  refine Finset.sum_congr rfl fun b _ => ?_
  rw [sum_idx2 (n0 := 8) (n1 := 128) (fun j => f (cell b j))]
  refine Finset.sum_congr rfl fun r _ => Finset.sum_congr rfl fun l _ => congrArg f ?_
  have := b.isLt
  refine cell_ext ?_ rfl
  rw [cell_row this]
  show r.val + 8 * b.val = 8 * b.val + r.val
  omega

/-! ## Selections by comparisons -/

/-- The one index of a single number. -/
abbrev o1 : S1x1.Idx := ix2 0 0

theorem eq_o1 (i : S1x1.Idx) : i = o1 := by
  rw [eq_ix2 i]
  have h0 := (i 0).isLt
  have h1 := (i 1).isLt
  congr 1 <;> (apply Fin.ext; simp at h0 h1 ⊢; omega)

theorem sel_gt (x y : EReal) {α : Type} (p q : α) : Scalar.select (Ideal.cmp .ogt x y) p q = if y < x then p else q := by
  by_cases h : y < x <;> simp [Ideal.cmp, Scalar.select, h]
theorem sel_ge (x y : EReal) {α : Type} (p q : α) : Scalar.select (Ideal.cmp .oge x y) p q = if y ≤ x then p else q := by
  by_cases h : y ≤ x <;> simp [Ideal.cmp, Scalar.select, h]
theorem sel_eq (x y : EReal) {α : Type} (p q : α) : Scalar.select (Ideal.cmp .oeq x y) p q = if x = y then p else q := by
  by_cases h : x = y <;> simp [Ideal.cmp, Scalar.select, h]

/-! ## Constants -/

theorem bits_zero : (Scalar.ofBits .f32 0x00000000#32 : Ideal .f32) = 0 := by
  show Ideal.ofBits .f32 0x00000000#32 = 0
  simp [Ideal.ofBits, Ideal.ieee]

theorem bits_top : (Scalar.ofBits .f32 0x7F800000#32 : Ideal .f32) = ⊤ := by
  show Ideal.ofBits .f32 0x7F800000#32 = ⊤
  simp [Ideal.ofBits, Ideal.ieee]

theorem bits_bot : (Scalar.ofBits .f32 0xFF800000#32 : Ideal .f32) = ⊥ := by
  show Ideal.ofBits .f32 0xFF800000#32 = ⊥
  simp [Ideal.ofBits, Ideal.ieee]

/-- A normal positive pattern: the mantissa with its leading bit, scaled by the exponent. -/
theorem bits_normal (b : BitVec 32) (e m : ℕ) (hs : b.extractLsb' 31 1 ≠ 1#1) (he : (b.extractLsb' 23 8).toNat = e) (h0 : e ≠ 0)
    (h1 : e < 255) (hm : 2 ^ 23 + (b.extractLsb' 0 23).toNat = m) :
    (Scalar.ofBits .f32 b : Ideal .f32) = ((m * (2 : ℝ) ^ ((e : ℤ) - 150) : ℝ) : EReal) := by
  show Ideal.ofBits .f32 b = _
  simp only [Ideal.ofBits, Ideal.ieee]
  rw [he, if_neg (by omega), if_neg (by omega), if_neg (by simpa using hs), hm]
  congr 1
  push_cast
  rw [show ((e : ℤ) - 127 - 23) = e - 150 by ring]
  ring

theorem bits_one : (Scalar.ofBits .f32 0x3F800000#32 : Ideal .f32) = (1 : EReal) := by
  rw [bits_normal _ 127 (2 ^ 23) (by decide) (by decide) (by decide) (by decide) (by decide), ← EReal.coe_one]
  congr 1; norm_num

theorem bits_threeHalves : (Scalar.ofBits .f32 0x3FC00000#32 : Ideal .f32) = ((3 / 2 : ℝ) : EReal) := by
  rw [bits_normal _ 127 12582912 (by decide) (by decide) (by decide) (by decide) (by decide)]
  congr 1; norm_num

theorem bits_far : (Scalar.ofBits .f32 0x4C000000#32 : Ideal .f32) = ((2 ^ 25 : ℝ) : EReal) := by
  rw [bits_normal _ 152 (2 ^ 23) (by decide) (by decide) (by decide) (by decide) (by decide)]
  congr 1; norm_num

/-- The fields of the pattern `offBits`: the sign bit is clear, the exponent is that of `1024 * n`, and the mantissa with its
    leading bit is `n` moved up to 24 bits. -/
theorem offBits_fields : ∀ n : Fin 49, n.val ≠ 0 → (offBits n.val).extractLsb' 31 1 ≠ 1#1 ∧
    ((offBits n.val).extractLsb' 23 8).toNat = 137 + Nat.log2 n.val ∧ Nat.log2 n.val ≤ 23 ∧
    2 ^ 23 + ((offBits n.val).extractLsb' 0 23).toNat = n.val * 2 ^ (23 - Nat.log2 n.val) ∧ Nat.log2 n.val < 100 := by decide

theorem bits_off {b : ℕ} (h : b < 49) : (Scalar.ofBits .f32 (offBits b) : Ideal .f32) = ((1024 * b : ℝ) : EReal) := by
  by_cases hb : b = 0
  · subst hb
    show Ideal.ofBits .f32 (offBits 0) = _
    simp [offBits, Ideal.ofBits, Ideal.ieee]
  · obtain ⟨hs, he, hl, hm, hl'⟩ := offBits_fields ⟨b, h⟩ hb
    simp only at hs he hl hm hl'
    rw [bits_normal _ _ _ hs he (by omega) (by omega) hm]
    congr 1
    push_cast
    rw [show (137 + (Nat.log2 b : ℤ)) - 150 = (10 : ℤ) - ((23 - Nat.log2 b : ℕ) : ℤ) by
      rw [Nat.cast_sub hl]; push_cast; ring]
    rw [zpow_sub₀ (by norm_num), zpow_natCast]
    have : (2 : ℝ) ^ (23 - Nat.log2 b) ≠ 0 := by positivity
    field_simp
    norm_num

end Cert.Fps

end
-- ==== Proof.Reads.lean ====
/-
  THE OPERATIONS OF A TRIP READ AT ONE PLACE, at exact values: the sums, maxima and minima of rows and columns as facts
  about their entries, and the block operations of `Trip.lean` as comparisons of extended reals.
-/
module

public import proofs.«01_k».proof.Proof.Cells
public import Idealize.ShloMosaic.Lib.Pipeline.Value

@[expose] public section

noncomputable section

namespace Cert.Fps

open Idealize.ShloMosaic Idealize.ShloMosaic.ValueIdx
open Cert.KernelIdeal (S8x128 S1176x128 S8192x128 S392x128 S1x128 S1x1 S1 S128)
open Cert.KernelIdeal.Facts₀

/-! ## Rows, columns and single numbers -/

theorem ext128 {i i' : S1x128.Idx} (h : (i 1).val = (i' 1).val) : i = i' := by
  have h0 : (i 0).val < 1 := idx2_lt0 i
  have h0' : (i' 0).val < 1 := idx2_lt0 i'
  funext a; match a with
  | 0 => apply Fin.ext; show (i 0).val = (i' 0).val; omega
  | 1 => exact Fin.ext h

theorem ext8 {i i' : Pos} (h0 : (i 0).val = (i' 0).val) (h : (i 1).val = (i' 1).val) : i = i' := by
  funext a; match a with
  | 0 => exact Fin.ext h0
  | 1 => exact Fin.ext h

/-- A number spread over a block is that number everywhere, -/
theorem spread8 (v : FVec Ideal S1x1 .f32) (j : Pos) : broadcastTo S8x128 v broadcasts_S1x1_S8x128 j = v o1 :=
  congrArg v (eq_o1 _)
/-- over a row too. -/
theorem spread1 (v : FVec Ideal S1x1 .f32) (j : S1x128.Idx) : broadcastTo S1x128 v broadcasts_S1x1_S1x128 j = v o1 :=
  congrArg v (eq_o1 _)

theorem cast8_eq (v : FVec Ideal S8x128 .f32) : cast8 v = v := shapeCast_self v _

/-- Row `r` of a block as a row. -/
theorem slice_row (v : FVec Ideal S8x128 .f32) (r : ℕ) (hr : r < 8) (h : S8x128.Slices ![r, 0] S1x128) (l : Fin 128) :
    extractStridedSlice S1x128 ![r, 0] v h (ix2 0 l) = v (ix2 ⟨r, hr⟩ l) := by
  refine congrArg v (ext8 ?_ ?_)
  · show r + 0 = r; omega
  · show 0 + l.val = l.val; omega

theorem row0_apply (v : FVec Ideal S8x128 .f32) (l : Fin 128) : row0 v (ix2 0 l) = v (ix2 0 l) := slice_row v 0 (by decide) _ l

/-- The entries a row's reduction goes over, -/
theorem lift_row (j : S1.Idx) (l : Fin 128) : reduces_S1x128_S1.lift j l = ix2 (n0 := 1) (n1 := 128) 0 l := ext128 rfl
/-- and a column's. -/
theorem lift_col (j : S128.Idx) (r : Fin 8) : reduces_S8x128_S128.lift j r = ix2 (n0 := 8) (n1 := 128) r (j 0) := ext8 rfl rfl

theorem rowSum_apply (v : FVec Ideal S1x128 .f32) (i : S1x1.Idx) : rowSum v i = ∑ l : Fin 128, v (ix2 0 l) := by
  unfold rowSum shapeCast
  refine (Ideal.multiReduction_add_single v _ _ _ _ _).trans ?_
  exact Finset.sum_congr rfl fun l _ => congrArg v (lift_row _ l)

/-- A row's column of a rank-one shape. -/
theorem cast128 (v : FVec Ideal S128 .f32) (l : Fin 128) : shapeCast S1x128 v shapeCasts_S128_S1x128 (ix2 0 l) = v (ix1 l) := by
  refine shapeCast_apply v _ _ _ ?_
  rw [Shape.rowMajor_val_one, Shape.rowMajor_val_two]
  show l.val = 0 * 128 + l.val
  omega

theorem colSum_apply (v : FVec Ideal S8x128 .f32) (l : Fin 128) : colSum v (ix2 0 l) = ∑ r : Fin 8, v (ix2 r l) := by
  unfold colSum
  rw [cast128]
  refine (Ideal.multiReduction_add_single v _ _ _ _ _).trans ?_
  exact Finset.sum_congr rfl fun r _ => congrArg v (lift_col _ r)

/-- The sum of a whole block. -/
theorem blockSum_apply (v : FVec Ideal S8x128 .f32) (i : S1x1.Idx) : rowSum (colSum v) i = ∑ j : Pos, v j := by
  rw [rowSum_apply, sum_idx2 (n0 := 8) (n1 := 128) v, Finset.sum_comm]
  exact Finset.sum_congr rfl fun l _ => colSum_apply v l

/-! ## Maxima and minima -/

/-- A fold of `max` is at least every entry, and is an entry or what it started from; -/
theorem fold_max {ι : Type} (s : Finset ι) (f : ι → EReal) (z : EReal) :
    (∀ i ∈ s, f i ≤ s.fold max z f) ∧ (s.fold max z f = z ∨ ∃ i ∈ s, f i = s.fold max z f) := by
  classical
  induction s using Finset.induction_on with
  | empty => simp
  | insert a s ha ih =>
    rw [Finset.fold_insert ha]
    refine ⟨fun i hi => ?_, ?_⟩
    · rcases Finset.mem_insert.1 hi with rfl | h
      · exact le_max_left _ _
      · exact (ih.1 i h).trans (le_max_right _ _)
    · rcases le_total (f a) (s.fold max z f) with h | h
      · rw [max_eq_right h]
        rcases ih.2 with h' | ⟨i, hi, h'⟩
        · exact .inl h'
        · exact .inr ⟨i, Finset.mem_insert_of_mem hi, h'⟩
      · rw [max_eq_left h]; exact .inr ⟨a, Finset.mem_insert_self _ _, rfl⟩

/-- a fold of `min` is at most every entry, and is an entry or what it started from. -/
theorem fold_min {ι : Type} (s : Finset ι) (f : ι → EReal) (z : EReal) :
    (∀ i ∈ s, s.fold min z f ≤ f i) ∧ (s.fold min z f = z ∨ ∃ i ∈ s, f i = s.fold min z f) := by
  classical
  induction s using Finset.induction_on with
  | empty => simp
  | insert a s ha ih =>
    rw [Finset.fold_insert ha]
    refine ⟨fun i hi => ?_, ?_⟩
    · rcases Finset.mem_insert.1 hi with rfl | h
      · exact min_le_left _ _
      · exact (min_le_right _ _).trans (ih.1 i h)
    · rcases le_total (f a) (s.fold min z f) with h | h
      · rw [min_eq_left h]; exact .inr ⟨a, Finset.mem_insert_self _ _, rfl⟩
      · rw [min_eq_right h]
        rcases ih.2 with h' | ⟨i, hi, h'⟩
        · exact .inl h'
        · exact .inr ⟨i, Finset.mem_insert_of_mem hi, h'⟩

theorem rowMax_spec (v : FVec Ideal S1x128 .f32) :
    (∀ l : Fin 128, (v (ix2 0 l) : EReal) ≤ rowMax v o1) ∧ (rowMax v o1 = (⊥ : EReal) ∨ ∃ l : Fin 128, v (ix2 0 l) = rowMax v o1) := by
  have e : (rowMax v o1 : EReal) = (Finset.univ : Finset (Fin 128)).fold max ⊥ (fun l => v (ix2 0 l)) := by
    unfold rowMax shapeCast
    refine (Ideal.multiReduction_maximumf_single v _ _ _ _ _).trans ?_
    rw [← bits_bot]
    exact congrArg (Finset.fold _ _ · _) (funext fun l => congrArg v (lift_row _ l))
  rw [e]
  obtain ⟨h, h'⟩ := fold_max (Finset.univ : Finset (Fin 128)) (fun l => (v (ix2 0 l) : EReal)) ⊥
  exact ⟨fun l => h l (Finset.mem_univ l), h'.imp id fun ⟨l, _, e⟩ => ⟨l, e⟩⟩

theorem rowMin_spec (v : FVec Ideal S1x128 .f32) :
    (∀ l : Fin 128, (rowMin v o1 : EReal) ≤ v (ix2 0 l)) ∧ (rowMin v o1 = (⊤ : EReal) ∨ ∃ l : Fin 128, v (ix2 0 l) = rowMin v o1) := by
  have e : (rowMin v o1 : EReal) = (Finset.univ : Finset (Fin 128)).fold min ⊤ (fun l => v (ix2 0 l)) := by
    unfold rowMin shapeCast
    refine (multiReduction_minimumf_eq_fold v _ _ _ _ _).trans ?_
    rw [← bits_top]
    refine (reduces_S1x128_S1.fold_filter_drop_single _ _ v _).trans ?_
    exact congrArg (Finset.fold _ _ · _) (funext fun l => congrArg v (lift_row _ l))
  rw [e]
  obtain ⟨h, h'⟩ := fold_min (Finset.univ : Finset (Fin 128)) (fun l => (v (ix2 0 l) : EReal)) ⊤
  exact ⟨fun l => h l (Finset.mem_univ l), h'.imp id fun ⟨l, _, e⟩ => ⟨l, e⟩⟩

theorem colMin_spec (v : FVec Ideal S8x128 .f32) (l : Fin 128) :
    (∀ r : Fin 8, (colMin v (ix2 0 l) : EReal) ≤ v (ix2 r l)) ∧
      (colMin v (ix2 0 l) = (⊤ : EReal) ∨ ∃ r : Fin 8, v (ix2 r l) = colMin v (ix2 0 l)) := by
  have e : (colMin v (ix2 0 l) : EReal) = (Finset.univ : Finset (Fin 8)).fold min ⊤ (fun r => v (ix2 r l)) := by
    unfold colMin
    rw [cast128, ← bits_top]
    refine (multiReduction_minimumf_eq_fold v _ _ _ _ _).trans ?_
    refine (reduces_S8x128_S128.fold_filter_drop_single _ _ v _).trans ?_
    exact congrArg (Finset.fold _ _ · _) (funext fun r => congrArg v (lift_col _ r))
  rw [e]
  obtain ⟨h, h'⟩ := fold_min (Finset.univ : Finset (Fin 8)) (fun r => (v (ix2 r l) : EReal)) ⊤
  exact ⟨fun r => h r (Finset.mem_univ r), h'.imp id fun ⟨l, _, e⟩ => ⟨l, e⟩⟩

/-- The least entry of a whole block. -/
theorem blockMin_spec (v : FVec Ideal S8x128 .f32) :
    (∀ j : Pos, (rowMin (colMin v) o1 : EReal) ≤ v j) ∧ (rowMin (colMin v) o1 = (⊤ : EReal) ∨ ∃ j : Pos, v j = rowMin (colMin v) o1) := by
  obtain ⟨h, h'⟩ := rowMin_spec (colMin v)
  refine ⟨fun j => ?_, ?_⟩
  · rw [eq_ix2 (n0 := 8) (n1 := 128) j]; exact (h (j 1)).trans ((colMin_spec v (j 1)).1 (j 0))
  · rcases h' with h' | ⟨l, e⟩
    · exact .inl h'
    · rcases (colMin_spec v l).2 with h'' | ⟨r, e'⟩
      · exact .inl (e.symm.trans h'')
      · exact .inr ⟨_, e'.trans e⟩

/-! ## The blocks' operations -/

/-- A block's coordinates, -/
theorem blkX_apply (X : Vec Ideal S1176x128 .f32) {o : ℕ} (ho : o ≤ 784) {b : ℕ} (h : b < 49) (j : Pos) :
    blkX X o ho b h j = X (inPlane o ho (cell b j)) := congrArg X (rX_emb h ho j)

/-- and its running minimum. -/
theorem blkD_apply (D : Vec Ideal S392x128 .f32) {b : ℕ} (h : b < 49) (j : Pos) : blkD D b h j = D (cell b j) := congrArg D (rD_emb h j)

/-- The squared distance from the point of a cell to the carried one, as the kernel adds it up. -/
def sq (X : Vec Ideal S1176x128 .f32) (p : Pt Ideal) (i : Cell) : EReal :=
  (X (inPlane 0 (by omega) i) - p.1 o1) * (X (inPlane 0 (by omega) i) - p.1 o1)
    + (X (inPlane 784 (by omega) i) - p.2.2 o1) * (X (inPlane 784 (by omega) i) - p.2.2 o1)
    + (X (inPlane 392 (by omega) i) - p.2.1 o1) * (X (inPlane 392 (by omega) i) - p.2.1 o1)

theorem newBlk_apply (X : Vec Ideal S1176x128 .f32) (p : Pt Ideal) {b : ℕ} (h : b < 49) (d : Vec Ideal S8x128 .f32) (j : Pos) :
    newBlk X p b h d j = min (d j) (sq X p (cell b j)) := by
  unfold newBlk newDist sqDist sq
  simp only [cast8_eq, minimumf_apply, addf_apply, mulf_apply, subf_apply, spread8, blkX_apply]

/-- A running maximum and its coordinates at one position. -/
def atPos (a : Acc Ideal) (j : Pos) : EReal × EReal × EReal × EReal := (a.1 j, a.2.1 j, a.2.2.1 j, a.2.2.2 j)

theorem better_apply (a : Acc Ideal) (n x y z : FVec Ideal S8x128 .f32) (j : Pos) :
    atPos (better a n x y z) j = if (a.1 j : EReal) < n j then (n j, x j, y j, z j) else atPos a j := by
  unfold atPos better
  simp only [select_apply, cmpf_apply]
  show (Scalar.select (Ideal.cmp .ogt _ _) _ _, Scalar.select (Ideal.cmp .ogt _ _) _ _, Scalar.select (Ideal.cmp .ogt _ _) _ _,
    Scalar.select (Ideal.cmp .ogt _ _) _ _) = _
  simp only [sel_gt]
  split <;> rfl

theorem join_apply (a b : Acc Ideal) (j : Pos) :
    atPos (join a b) j = if (b.1 j : EReal) ≤ a.1 j then atPos a j else atPos b j := by
  unfold atPos join
  simp only [select_apply, cmpf_apply]
  show (Scalar.select (Ideal.cmp .oge _ _) _ _, Scalar.select (Ideal.cmp .oge _ _) _ _, Scalar.select (Ideal.cmp .oge _ _) _ _,
    Scalar.select (Ideal.cmp .oge _ _) _ _) = _
  simp only [sel_ge]
  split <;> rfl

/-- The rows turned by `s`: row `r` is row `r - s`, counted modulo 8. -/
theorem turn_apply (s : BitVec 32) (a : Acc Ideal) (r : Fin 8) (l : Fin 128) :
    atPos (turn s a) (ix2 r l) = atPos a (ix2 ⟨(r.val + 8 - s.toNat % 8) % 8, Nat.mod_lt _ (by decide)⟩ l) := by
  have e : ∀ v : FVec Ideal S8x128 .f32, dynamicRotate 0 s none v rotates_S8x128_d0 (ix2 r l)
      = v (ix2 ⟨(r.val + 8 - s.toNat % 8) % 8, Nat.mod_lt _ (by decide)⟩ l) := fun v => congrArg v (ext8 rfl rfl)
  unfold atPos turn
  simp only [e]

theorem hitBlk_apply (mb : FVec Ideal S1x1 .f32) (d : FVec Ideal S8x128 .f32) (j : Pos) :
    (hitBlk mb d j : EReal) = if (d j : EReal) = mb o1 then 1 else 0 := by
  unfold hitBlk
  simp only [select_apply, cmpf_apply, broadcast_apply, spread8, bits_one, bits_zero]
  exact sel_eq _ _ _ _

/-- A small number's word, read signed, is the number. -/
theorem word_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The flat index of a cell as the kernel holds it. -/
theorem idxBlk_apply {b : ℕ} (h : b < 49) (j : Pos) : (idxBlk (F := Ideal) flat8 b j : EReal) = ((flat (cell b j) : ℝ) : EReal) := by
  have h0 : (j 0).val < 8 := idx2_lt0 j
  have h1 : (j 1).val < 128 := idx2_lt1 j
  have e : (flat8 (F := Ideal) j : EReal) = ((128 * (j 0).val + (j 1).val : ℝ) : EReal) := by
    show (((BitVec.ofNat 32 (0 * 8 + (j 0).val) * BitVec.ofNat 32 128 + BitVec.ofNat 32 (0 * 128 + (j 1).val)).toInt : ℝ) : EReal) = _
    rw [← BitVec.ofNat_mul, ← BitVec.ofNat_add, word_toInt (by omega)]
    congr 1
    push_cast
    ring
  unfold idxBlk
  simp only [addf_apply, broadcast_apply, e, bits_off h]
  rw [← EReal.coe_add]
  congr 1
  unfold flat
  rw [cell_row h, cell_lane]
  push_cast
  ring

end Cert.Fps

end
-- ==== Proof.Top.lean ====
/-
  THE FIRST PASS OF A TRIP, as values: after it every cell holds the smaller of what it held and its squared distance to the
  carried point, and the running maximum, folded over the rows and then over the lanes, is the greatest of these values with
  the coordinates of a cell that has it. The invariant is `Top`: over the cells gone through so far.
-/
module

public import proofs.«01_k».proof.Proof.Reads

@[expose] public section

noncomputable section

namespace Cert.Fps

open Idealize.ShloMosaic Idealize.ShloMosaic.ValueIdx
open Cert.KernelIdeal (S8x128 S1176x128 S8192x128 S392x128 S1x128 S1x1 S1 S128)
open Cert.KernelIdeal.Facts₀

/-- The three coordinates of a cell's point. -/
def coords (X : Vec Ideal S1176x128 .f32) (i : Cell) : EReal × EReal × EReal :=
  (X (inPlane 0 (by omega) i), X (inPlane 392 (by omega) i), X (inPlane 784 (by omega) i))

/-- The new value of a cell: the smaller of what it held and its squared distance to the carried point. -/
def newAt (X : Vec Ideal S1176x128 .f32) (p : Pt Ideal) (D : Vec Ideal S392x128 .f32) (i : Cell) : EReal := min (D i) (sq X p i)

/-- The value `a.1` is the greatest of `N` over the cells of `S`, with the coordinates of a cell that has it (or is `⊥`). -/
def Top (N : Cell → EReal) (C : Cell → EReal × EReal × EReal) (S : Set Cell) (a : EReal × EReal × EReal × EReal) : Prop :=
  (∀ i ∈ S, N i ≤ a.1) ∧ (a.1 = ⊥ ∨ ∃ i ∈ S, a = (N i, C i))

variable {N : Cell → EReal} {C : Cell → EReal × EReal × EReal}

/-- Nothing gone through. -/
theorem Top.empty (j : Pos) : Top N C ∅ (atPos acc0 j) :=
  ⟨fun i hi => hi.elim, .inl bits_bot⟩

theorem Top.congr {S T : Set Cell} {a : EReal × EReal × EReal × EReal} (h : Top N C S a) (e : S = T) : Top N C T a := e ▸ h

/-- One more cell. -/
theorem Top.better {S : Set Cell} {a : Acc Ideal} {j : Pos} (h : Top N C S (atPos a j)) {n x y z : FVec Ideal S8x128 .f32} {i : Cell}
    (hn : n j = N i) (hc : (x j, y j, z j) = C i) : Top N C (insert i S) (atPos (better a n x y z) j) := by
  rw [better_apply]
  by_cases hlt : (a.1 j : EReal) < n j
  · rw [if_pos hlt]
    refine ⟨fun i' hi' => ?_, .inr ⟨i, Set.mem_insert _ _, by rw [← hn, ← hc]⟩⟩
    rcases hi' with rfl | hi'
    · exact hn.ge
    · exact (h.1 i' hi').trans hlt.le
  · rw [if_neg hlt]
    refine ⟨fun i' hi' => ?_, h.2.imp id fun ⟨i', hi', e⟩ => ⟨i', Set.mem_insert_of_mem _ hi', e⟩⟩
    rcases hi' with rfl | hi'
    · rw [← hn]; exact not_lt.1 hlt
    · exact h.1 i' hi'

/-- Two sets of cells joined. -/
theorem Top.join {S T : Set Cell} {a b : Acc Ideal} {j : Pos} (h : Top N C S (atPos a j)) (h' : Top N C T (atPos b j)) :
    Top N C (S ∪ T) (atPos (join a b) j) := by
  rw [join_apply]
  by_cases hle : (b.1 j : EReal) ≤ a.1 j
  · rw [if_pos hle]
    refine ⟨fun i hi => ?_, h.2.imp id fun ⟨i, hi, e⟩ => ⟨i, .inl hi, e⟩⟩
    rcases hi with hi | hi
    · exact h.1 i hi
    · exact (h'.1 i hi).trans hle
  · rw [if_neg hle]
    refine ⟨fun i hi => ?_, h'.2.imp id fun ⟨i, hi, e⟩ => ⟨i, .inr hi, e⟩⟩
    rcases hi with hi | hi
    · exact (h.1 i hi).trans (not_le.1 hle).le
    · exact h'.1 i hi

/-! ## The pass over the blocks -/

/-- One block: its cells get their new values, the others keep theirs. -/
theorem scanBlkV_cells (X : Vec Ideal S1176x128 .f32) (p : Pt Ideal) {b : ℕ} (h : b < 49) (D : Vec Ideal S392x128 .f32) (a : Acc Ideal) (i : Cell) :
    ((scanBlkV X p b h (D, a)).1 i : EReal) = if 8 * b ≤ (i 0).val ∧ (i 0).val < 8 * b + 8 then newAt X p D i else D i := by
  unfold scanBlkV
  split
  · next hi =>
    have hb : (i 0).val / 8 = b := by omega
    have e : (rD b h).emb (posOf i) = i := by rw [rD_emb, ← hb]; exact cell_posOf i
    show put (rD b h) _ D i = _
    conv_lhs => rw [← e, put_emb]
    rw [cast8_eq, newBlk_apply, blkD_apply, ← hb, cell_posOf]
    rfl
  · next hi =>
    refine put_of_not (rD b h) _ D fun j e => hi ?_
    have hr := congrArg (fun i : Cell => (i 0).val) e
    simp only [rD_emb, cell_row h] at hr
    have := idx2_lt0 j
    omega

/-- THE PASS over the `n` blocks from `b`: their cells get their new values, the others keep theirs, -/
theorem scanV_cells (X : Vec Ideal S1176x128 .f32) (p : Pt Ideal) : ∀ (n b : ℕ) (h : b + n ≤ 49) (D : Vec Ideal S392x128 .f32) (a : Acc Ideal) (i : Cell),
    ((scanV X p n b h (D, a)).1 i : EReal) = if 8 * b ≤ (i 0).val ∧ (i 0).val < 8 * (b + n) then newAt X p D i else D i
  | 0, b, h, D, a, i => by
    rw [if_neg (by omega)]; rfl
  | n + 1, b, h, D, a, i => by
    have hs := scanBlkV_cells X p (b := b) (by omega) D a i
    show ((scanV X p n (b + 1) _ ((scanBlkV X p b _ (D, a)).1, (scanBlkV X p b _ (D, a)).2)).1 i : EReal) = _
    rw [scanV_cells X p n (b + 1)]
    unfold newAt at hs ⊢
    rw [hs]
    by_cases h1 : 8 * b ≤ (i 0).val ∧ (i 0).val < 8 * b + 8
    · rw [if_neg (by omega), if_pos h1, if_pos (by omega)]
    · rw [if_neg h1]
      by_cases h2 : 8 * (b + 1) ≤ (i 0).val ∧ (i 0).val < 8 * (b + 1 + n)
      · rw [if_pos h2, if_pos (by omega)]
      · rw [if_neg h2, if_neg (by omega)]

/-- The cells of the `n` blocks from `b` at position `j`. -/
def strip (n b : ℕ) (j : Pos) : Set Cell := {i | ∃ t, b ≤ t ∧ t < b + n ∧ i = cell t j}

/-- and the running maximum takes these cells in. `N` is the new value of every cell the pass has still to come to. -/
theorem scanV_top (X : Vec Ideal S1176x128 .f32) (p : Pt Ideal) (j : Pos) : ∀ (n b : ℕ) (h : b + n ≤ 49) (D : Vec Ideal S392x128 .f32) (a : Acc Ideal)
    (S : Set Cell) (_ : ∀ i : Cell, 8 * b ≤ (i 0).val → newAt X p D i = N i) (_ : Top N (coords X) S (atPos a j)),
    Top N (coords X) (S ∪ strip n b j) (atPos (scanV X p n b h (D, a)).2 j)
  | 0, b, h, D, a, S, hN, ht => by
    refine Top.congr ht ?_
    ext i; constructor
    · exact .inl
    · rintro (h | ⟨t, h1, h2, _⟩)
      · exact h
      · omega
  | n + 1, b, h, D, a, S, hN, ht => by
    have hb : b < 49 := by omega
    have hcell : 8 * b ≤ ((cell b j) 0).val := by rw [cell_row hb]; omega
    have step : Top N (coords X) (insert (cell b j) S) (atPos (scanBlkV X p b hb (D, a)).2 j) := by
      refine Top.better ht ?_ ?_
      · rw [newBlk_apply, blkD_apply]; exact hN _ hcell
      · simp only [cast8_eq, blkX_apply]; rfl
    show Top N (coords X) _ (atPos (scanV X p n (b + 1) _ ((scanBlkV X p b _ (D, a)).1, (scanBlkV X p b _ (D, a)).2)).2 j)
    refine Top.congr (scanV_top X p j n (b + 1) (by omega) _ _ _ ?_ step) ?_
    · intro i hi
      rw [← hN i (by omega)]
      unfold newAt
      rw [scanBlkV_cells, if_neg (by omega)]
    · ext i; constructor
      · rintro ((rfl | h) | ⟨t, h1, h2, rfl⟩)
        · exact .inr ⟨b, by omega, by omega, rfl⟩
        · exact .inl h
        · exact .inr ⟨t, by omega, by omega, rfl⟩
      · rintro (h | ⟨t, h1, h2, rfl⟩)
        · exact .inl (.inr h)
        · rcases Nat.eq_or_lt_of_le h1 with rfl | h1
          · exact .inl (.inl rfl)
          · exact .inr ⟨t, by omega, by omega, rfl⟩

/-- After both chains every cell has its new value. -/
theorem chainB_cells (X : Vec Ideal S1176x128 .f32) (p : Pt Ideal) (D : Vec Ideal S392x128 .f32) (i : Cell) :
    ((chainB X p D).1 i : EReal) = newAt X p D i := by
  have hi := idx2_lt0 i
  unfold chainB
  rw [scanV_cells]
  have hA : ((chainA X p D).1 i : EReal) = if 8 * 0 ≤ (i 0).val ∧ (i 0).val < 8 * (0 + 25) then newAt X p D i else D i :=
    scanV_cells X p 25 0 _ D acc0 i
  by_cases h : 8 * 25 ≤ (i 0).val
  · rw [if_pos (by omega)]
    unfold newAt at hA ⊢
    rw [hA, if_neg (by omega)]
  · rw [if_neg (by omega), hA, if_pos (by omega)]

/-- The cells at position `j` of any block. -/
theorem joined_top (X : Vec Ideal S1176x128 .f32) (p : Pt Ideal) (D : Vec Ideal S392x128 .f32) (j : Pos) :
    Top (newAt X p D) (coords X) (strip 49 0 j) (atPos (join (chainA X p D).2 (chainB X p D).2) j) := by
  have hA : Top (newAt X p D) (coords X) (∅ ∪ strip 25 0 j) (atPos (chainA X p D).2 j) :=
    scanV_top X p j 25 0 _ D acc0 ∅ (fun _ _ => rfl) (Top.empty j)
  have hB : Top (newAt X p D) (coords X) (∅ ∪ strip 24 25 j) (atPos (chainB X p D).2 j) := by
    refine scanV_top X p j 24 25 _ (chainA X p D).1 acc0 ∅ (fun i hi => ?_) (Top.empty j)
    unfold newAt chainA
    rw [scanV_cells, if_neg (by omega)]
  refine Top.congr (hA.join hB) ?_
  ext i; constructor
  · rintro ((h | ⟨t, _, h2, rfl⟩) | (h | ⟨t, _, h2, rfl⟩))
    · exact h.elim
    · exact ⟨t, by omega, by omega, rfl⟩
    · exact h.elim
    · exact ⟨t, by omega, by omega, rfl⟩
  · rintro ⟨t, _, h2, rfl⟩
    by_cases h : t < 25
    · exact .inl (.inr ⟨t, by omega, by omega, rfl⟩)
    · exact .inr (.inr ⟨t, by omega, by omega, rfl⟩)

/-! ## The fold over the rows -/

/-- The join of a running maximum with itself turned by `s` rows takes in two rows' cells. -/
theorem turn_top {a : Acc Ideal} {l : Fin 128} {R : Fin 8 → Set Cell} (h : ∀ r, Top N C (R r) (atPos a (ix2 r l))) (s : BitVec 32) (r : Fin 8) :
    Top N C (R r ∪ R ⟨(r.val + 8 - s.toNat % 8) % 8, Nat.mod_lt _ (by decide)⟩) (atPos (join a (turn s a)) (ix2 r l)) := by
  refine (h r).join ?_
  rw [turn_apply]
  exact h _

/-- Row 0 of the folded running maximum has the cells of every row. -/
theorem fold8_top {a : Acc Ideal} {l : Fin 128} {R : Fin 8 → Set Cell} (h : ∀ r, Top N C (R r) (atPos a (ix2 r l))) :
    Top N C (⋃ r, R r) (atPos (fold8 a) (ix2 0 l)) := by
  refine Top.congr (turn_top (turn_top (turn_top h 4#32) 2#32) 1#32 0) ?_
  show ((R 0 ∪ R 4) ∪ (R 6 ∪ R 2)) ∪ ((R 7 ∪ R 3) ∪ (R 5 ∪ R 1)) = ⋃ r, R r
  ext i
  simp only [Set.mem_union, Set.mem_iUnion]
  constructor
  · rintro (((h | h) | (h | h)) | ((h | h) | (h | h))) <;> exact ⟨_, h⟩
  · rintro ⟨r, h⟩
    fin_cases r <;> simp only [Fin.zero_eta, Fin.mk_one, Fin.reduceFinMk] at h <;> simp only [h, true_or, or_true]

/-- So at lane `l` it has the cells of lane `l`. -/
theorem topV_lane (X : Vec Ideal S1176x128 .f32) (p : Pt Ideal) (D : Vec Ideal S392x128 .f32) (l : Fin 128) :
    Top (newAt X p D) (coords X) {i | i 1 = l} (atPos (topV X p D) (ix2 0 l)) := by
  refine Top.congr (fold8_top fun r => joined_top X p D (ix2 r l)) ?_
  ext i
  simp only [Set.mem_iUnion]
  constructor
  · rintro ⟨r, t, _, _, rfl⟩; rfl
  · rintro rfl
    have := idx2_lt0 i
    exact ⟨⟨(i 0).val % 8, Nat.mod_lt _ (by decide)⟩, (i 0).val / 8, by omega, by omega, (cell_posOf i).symm⟩

end Cert.Fps

end
-- ==== Proof.Winner.lean ====
/-
  THE REST OF A TRIP, as values. The maximum of the trip is the greatest new value; the count is the number of cells that
  have it; where the count is above one the least flat index among them is found and its coordinates are summed out, and
  where it is not the one cell's coordinates are already at hand. Either way the carried point becomes the coordinates of the
  first cell with the greatest new value, as soon as that value is not negative.
-/
module

public import proofs.«01_k».proof.Proof.Top

@[expose] public section

noncomputable section

namespace Cert.Fps

open Idealize.ShloMosaic Idealize.ShloMosaic.ValueIdx
open Cert.KernelIdeal (S8x128 S1176x128 S8192x128 S392x128 S1x128 S1x1 S1 S128)
open Cert.KernelIdeal.Facts₀

/-- A carried point's coordinates. -/
def ptAt (p : Pt Ideal) : EReal × EReal × EReal := (p.1 o1, p.2.1 o1, p.2.2 o1)

/-- `i` is the first cell with the greatest value of `N`. -/
def First (N : Cell → EReal) (i : Cell) : Prop := (∀ i', N i' ≤ N i) ∧ ∀ i', N i' = N i → flat i ≤ flat i'

/-! ## The maximum -/

variable {N : Cell → EReal} {C : Cell → EReal × EReal × EReal} {a : Acc Ideal}

theorem Top.le_of_lane {S : Set Cell} {m : EReal} {j : Pos} (h : Top N C S (atPos a j)) (hm : ∀ i, N i ≤ m) : (a.1 j : EReal) ≤ m := by
  rcases h.2 with h | ⟨i, _, h⟩
  · exact (show (a.1 j : EReal) = ⊥ from h) ▸ bot_le
  · exact (show (a.1 j : EReal) = N i from congrArg Prod.fst h) ▸ hm i

/-- The maximum of the trip is the greatest new value. -/
theorem maxOf_eq (h : ∀ l : Fin 128, Top N C {i | i 1 = l} (atPos a (ix2 0 l))) {w : Cell} (hw : ∀ i, N i ≤ N w) :
    (maxOf a o1 : EReal) = N w := by
  obtain ⟨k, hk⟩ : ∃ k : Fin 128, w 1 = k := ⟨_, rfl⟩
  obtain ⟨hle, hatt⟩ := rowMax_spec (row0 a.1)
  refine le_antisymm ?_ ?_
  · rcases hatt with h' | ⟨l, h'⟩
    · exact (show (maxOf a o1 : EReal) = ⊥ from h') ▸ bot_le
    · rw [row0_apply] at h'
      exact (show (a.1 (ix2 0 l) : EReal) = maxOf a o1 from h') ▸ (h l).le_of_lane hw
  · have h1 := hle k
    rw [row0_apply] at h1
    exact ((h k).1 w hk).trans h1

/-! ## The one cell's coordinates -/

/-- Where just one cell has the maximum and it is not `⊥`, the coordinates at hand are that cell's. -/
theorem hits_eq (h : ∀ l : Fin 128, Top N C {i | i 1 = l} (atPos a (ix2 0 l))) {w : Cell} (hw : ∀ i, N i ≤ N w)
    (hbot : N w ≠ ⊥) (hone : ∀ i, N i = N w → i = w) : ptAt (hits a) = C w := by
  obtain ⟨k, hk⟩ : ∃ k : Fin 128, w 1 = k := ⟨_, rfl⟩
  have hm := maxOf_eq h hw
  -- a lane that holds the maximum is the cell's, with the cell's coordinates
  have lane : ∀ l : Fin 128, (a.1 (ix2 0 l) : EReal) = N w → l = k ∧ atPos a (ix2 0 l) = (N w, C w) := by
    intro l hl
    rcases (h l).2 with h' | ⟨i, hi, h'⟩
    · exact absurd (hl.symm.trans h') hbot
    · have hi' : i = w := hone i ((congrArg Prod.fst h').symm.trans hl)
      subst hi'
      exact ⟨Eq.trans (Eq.symm hi) hk, h'⟩
  have own : (a.1 (ix2 0 k) : EReal) = N w := le_antisymm ((h k).le_of_lane hw) ((h k).1 w hk)
  have one : ∀ v : FVec Ideal S8x128 .f32, (hitSum a v o1 : EReal) = v (ix2 0 k) := by
    intro v
    unfold hitSum
    rw [rowSum_apply, Finset.sum_eq_single k]
    · simp only [select_apply, cmpf_apply, spread1, row0_apply]
      exact (sel_eq _ _ _ _).trans (if_pos (own.trans hm.symm))
    · intro l _ hl
      simp only [select_apply, cmpf_apply, spread1, row0_apply, broadcast_apply, bits_zero]
      exact (sel_eq _ _ _ _).trans (if_neg fun h' => hl (lane l (h'.trans hm)).1)
    · exact fun h' => absurd (Finset.mem_univ _) h'
  have hc := (lane k own).2
  unfold ptAt hits
  simp only [one]
  exact congrArg Prod.snd hc

/-! ## The count -/

/-- One for each cell of a block that has the value `m`. -/
def isHit (N : Cell → EReal) (m : EReal) (i : Cell) : EReal := if N i = m then 1 else 0

theorem countV_apply (D : Vec Ideal S392x128 .f32) (mb : FVec Ideal S1x1 .f32) (j : Pos) : ∀ (n b : ℕ) (h : b + n ≤ 49) (a : FVec Ideal S8x128 .f32),
    (countV D mb n b h a j : EReal) = a j + ∑ t ∈ Finset.range n, isHit D (mb o1) (cell (b + t) j)
  | 0, b, h, a => by simp [countV]
  | n + 1, b, h, a => by
    show (countV D mb n (b + 1) _ (addf a (hitBlk mb (blkD D b _))) j : EReal) = _
    rw [countV_apply D mb j n (b + 1), Finset.sum_range_succ', addf_apply, hitBlk_apply, blkD_apply]
    simp only [Nat.add_zero, Nat.add_assoc, Nat.add_comm 1]
    show _ + isHit D (mb o1) (cell b j) + _ = _
    rw [add_assoc]
    congr 1
    exact add_comm _ _

/-- The count is the sum over all cells. -/
theorem countOf_apply (n : FVec Ideal S8x128 .f32) : (countOf n : EReal) = ∑ j : Pos, (n j : EReal) := by
  have e : (countOf n : EReal) = rowSum (F := Ideal) _ _ := rfl
  rw [e, rowSum_apply, sum_idx2 (n0 := 8) (n1 := 128) (fun j => (n j : EReal)), Finset.sum_comm]
  refine Finset.sum_congr rfl fun l _ => ?_
  rw [Fin.sum_univ_eight]
  simp only [addf_apply, row0_apply]
  rw [slice_row n 1 (by decide), slice_row n 2 (by decide), slice_row n 3 (by decide), slice_row n 4 (by decide), slice_row n 5 (by decide),
    slice_row n 6 (by decide), slice_row n 7 (by decide)]
  rfl

theorem count_eq (D : Vec Ideal S392x128 .f32) (mb : FVec Ideal S1x1 .f32) (h : 0 + 49 ≤ 49) :
    (countOf (countV D mb 49 0 h zero8) : EReal) = ∑ i : Cell, isHit D (mb o1) i := by
  rw [countOf_apply, sum_cells, Finset.sum_comm]
  refine Finset.sum_congr rfl fun j _ => ?_
  rw [countV_apply]
  simp only [broadcast_apply, bits_zero, zero_add]

/-- The conditional's word is one when the count is above one and a half. -/
theorem tieBit_eq (n : FVec Ideal S8x128 .f32) (h : ((3 / 2 : ℝ) : EReal) < countOf n) : tieBit n = 1#1 := by
  have e : (Scalar.cmpf .ogt (countOf n) (Scalar.ofBits .f32 0x3FC00000#32) : BitVec 1) = 1#1 := by
    rw [bits_threeHalves]
    show Ideal.cmp .ogt _ _ = 1#1
    simp [Ideal.cmp, h]
  unfold tieBit
  rw [e]
  decide

/-- So where it is not one, two cells that have the maximum are the same cell. -/
theorem unique_of_no_tie (D : Vec Ideal S392x128 .f32) (mb : FVec Ideal S1x1 .f32) (h : 0 + 49 ≤ 49) (hn : tieBit (countV D mb 49 0 h zero8) ≠ 1#1)
    {i i' : Cell} (hi : (D i : EReal) = mb o1) (hi' : (D i' : EReal) = mb o1) : i = i' := by
  by_contra hne
  refine hn (tieBit_eq _ ?_)
  rw [count_eq]
  have h2 : (∑ k ∈ ({i, i'} : Finset Cell), isHit D (mb o1) k) ≤ ∑ k : Cell, isHit D (mb o1) k := by
    refine Finset.sum_le_sum_of_subset_of_nonneg (Finset.subset_univ _) fun k _ _ => ?_
    unfold isHit; split
    · exact zero_le_one
    · exact le_refl _
  refine lt_of_lt_of_le ?_ h2
  rw [Finset.sum_pair hne]
  unfold isHit
  rw [if_pos hi, if_pos hi', ← EReal.coe_one, ← EReal.coe_add, EReal.coe_lt_coe_iff]
  norm_num

/-! ## On a tie -/

/-- The value `r` is at most the index of every cell of `S` that has the value `m`, and is one of these indices, `2^25` or
    `⊤`. -/
def Low (N : Cell → EReal) (m : EReal) (S : Set Cell) (r : EReal) : Prop :=
  (∀ i ∈ S, N i = m → r ≤ ((flat i : ℝ) : EReal)) ∧
    (((2 ^ 25 : ℝ) : EReal) ≤ r ∨ ∃ i ∈ S, N i = m ∧ ((flat i : ℝ) : EReal) = r)

theorem Low.congr {N : Cell → EReal} {m : EReal} {S T : Set Cell} {r : EReal} (h : Low N m S r) (e : S = T) : Low N m T r := e ▸ h

theorem Low.min {N : Cell → EReal} {m : EReal} {S T : Set Cell} {r s : EReal} (h : Low N m S r) (h' : Low N m T s) : Low N m (S ∪ T) (min r s) := by
  refine ⟨fun i hi hN => ?_, ?_⟩
  · rcases hi with hi | hi
    · exact (min_le_left _ _).trans (h.1 i hi hN)
    · exact (min_le_right _ _).trans (h'.1 i hi hN)
  · rcases le_total r s with hrs | hrs
    · rw [min_eq_left hrs]; exact h.2.imp id fun ⟨i, hi, e⟩ => ⟨i, .inl hi, e⟩
    · rw [min_eq_right hrs]; exact h'.2.imp id fun ⟨i, hi, e⟩ => ⟨i, .inr hi, e⟩

/-- One block's least index. -/
theorem blk_low (D : Vec Ideal S392x128 .f32) (mb : FVec Ideal S1x1 .f32) {b : ℕ} (h : b < 49) :
    Low D (mb o1) {i | ∃ j, i = cell b j} (rowMin (F := Ideal) (colMin (select (cmpf .oeq (blkD D b h) (broadcastTo S8x128 mb broadcasts_S1x1_S8x128)) (idxBlk flat8 b)
      (broadcast S8x128 (Scalar.ofBits .f32 0x4C000000#32)))) o1) := by
  have e : ∀ j : Pos, ((select (cmpf .oeq (blkD D b h) (broadcastTo S8x128 mb broadcasts_S1x1_S8x128)) (idxBlk flat8 b)
      (broadcast S8x128 (Scalar.ofBits .f32 0x4C000000#32)) : FVec Ideal S8x128 .f32) j : EReal)
        = if (D (cell b j) : EReal) = mb o1 then ((flat (cell b j) : ℝ) : EReal) else ((2 ^ 25 : ℝ) : EReal) := by
    intro j
    simp only [select_apply, cmpf_apply, spread8, broadcast_apply, bits_far, blkD_apply, idxBlk_apply h]
    exact sel_eq _ _ _ _
  obtain ⟨hle, hatt⟩ := blockMin_spec (select (cmpf .oeq (blkD D b h) (broadcastTo S8x128 mb broadcasts_S1x1_S8x128)) (idxBlk flat8 b)
      (broadcast S8x128 (Scalar.ofBits .f32 0x4C000000#32)))
  refine ⟨?_, ?_⟩
  · rintro i ⟨j, rfl⟩ hN
    have := hle j
    rw [e, if_pos hN] at this
    exact this
  · rcases hatt with h' | ⟨j, h'⟩
    · rw [h']; exact .inl le_top
    · rw [← h', e]
      split
      · next hN => exact .inr ⟨_, ⟨j, rfl⟩, hN, rfl⟩
      · exact .inl (le_refl _)

theorem leastV_low (D : Vec Ideal S392x128 .f32) (mb : FVec Ideal S1x1 .f32) : ∀ (n b : ℕ) (h : b + n ≤ 49) (a : FVec Ideal S1x1 .f32) (S : Set Cell)
    (_ : Low D (mb o1) S (a o1)), Low D (mb o1) (S ∪ {i | ∃ t j, b ≤ t ∧ t < b + n ∧ i = cell t j}) (leastV D flat8 mb n b h a o1)
  | 0, b, h, a, S, hl => by
    refine Low.congr hl ?_
    ext i; constructor
    · exact .inl
    · rintro (h | ⟨t, j, h1, h2, _⟩)
      · exact h
      · omega
  | n + 1, b, h, a, S, hl => by
    show Low D (mb o1) _ (leastV D flat8 mb n (b + 1) _ (minIdx flat8 mb b a (blkD D b _)) o1)
    refine Low.congr (leastV_low D mb n (b + 1) (by omega) _ _ (hl.min (blk_low D mb (b := b) (by omega)))) ?_
    ext i; constructor
    · rintro ((h | ⟨j, rfl⟩) | ⟨t, j, h1, h2, rfl⟩)
      · exact .inl h
      · exact .inr ⟨b, j, by omega, by omega, rfl⟩
      · exact .inr ⟨t, j, by omega, by omega, rfl⟩
    · rintro (h | ⟨t, j, h1, h2, rfl⟩)
      · exact .inl (.inl h)
      · rcases Nat.eq_or_lt_of_le h1 with rfl | h1
        · exact .inl (.inr ⟨j, rfl⟩)
        · exact .inr ⟨t, j, by omega, by omega, rfl⟩

/-- The least index among the cells that have the maximum is the first one's. -/
theorem leastV_eq (D : Vec Ideal S392x128 .f32) (mb : FVec Ideal S1x1 .f32) (h : 0 + 49 ≤ 49) {w : Cell} (hw : (D w : EReal) = mb o1)
    (hmin : ∀ i, (D i : EReal) = mb o1 → flat w ≤ flat i) : (leastV D flat8 mb 49 0 h far1 o1 : EReal) = ((flat w : ℝ) : EReal) := by
  have h0 : Low D (mb o1) ∅ (far1 (F := Ideal) o1) := ⟨fun i hi => hi.elim, .inl (show _ ≤ (Scalar.ofBits .f32 0x4C000000#32 : Ideal .f32) by rw [bits_far])⟩
  obtain ⟨hle, hatt⟩ := leastV_low D mb 49 0 h far1 ∅ h0
  have mem : ∀ i : Cell, i ∈ (∅ ∪ {i | ∃ t j, 0 ≤ t ∧ t < 0 + 49 ∧ i = cell t j} : Set Cell) := fun i =>
    .inr ⟨(i 0).val / 8, posOf i, by omega, by have := idx2_lt0 i; omega, (cell_posOf i).symm⟩
  have h1 := hle w (mem w) hw
  refine le_antisymm h1 ?_
  rcases hatt with h2 | ⟨i, _, hi, e⟩
  · have := h2.trans h1
    rw [EReal.coe_le_coe_iff] at this
    have hf : ((flat w : ℕ) : ℝ) < 50176 := by exact_mod_cast flat_lt w
    have := this.trans_lt hf
    norm_num at this
  · rw [← e, EReal.coe_le_coe_iff]
    exact_mod_cast hmin i hi

/-- One coordinate summed out of a block. -/
theorem pick_apply (iwin t : FVec Ideal S1x1 .f32) {b : ℕ} (h : b < 49) (x : FVec Ideal S8x128 .f32) :
    (pick flat8 iwin b t x o1 : EReal) = t o1 + ∑ j : Pos, if ((flat (cell b j) : ℝ) : EReal) = iwin o1 then (x j : EReal) else 0 := by
  unfold pick
  rw [addf_apply, blockSum_apply]
  congr 1
  refine Finset.sum_congr rfl fun j _ => ?_
  simp only [select_apply, cmpf_apply, spread8, broadcast_apply, bits_zero, idxBlk_apply h]
  exact sel_eq _ _ _ _

/-- The coordinate `x` of the cells of index `iwin`, summed over a block's positions. -/
def picked (x : Cell → EReal) (iw : EReal) (b : ℕ) : EReal := ∑ j : Pos, if ((flat (cell b j) : ℝ) : EReal) = iw then x (cell b j) else 0

theorem gatherV_apply (X : Vec Ideal S1176x128 .f32) (iwin : FVec Ideal S1x1 .f32) : ∀ (n b : ℕ) (h : b + n ≤ 49) (t : Pt Ideal),
    ptAt (gatherV X flat8 iwin n b h t)
      = ((ptAt t).1 + ∑ s ∈ Finset.range n, picked (fun i => (coords X i).1) (iwin o1) (b + s),
        (ptAt t).2.1 + ∑ s ∈ Finset.range n, picked (fun i => (coords X i).2.1) (iwin o1) (b + s),
        (ptAt t).2.2 + ∑ s ∈ Finset.range n, picked (fun i => (coords X i).2.2) (iwin o1) (b + s))
  | 0, b, h, t => by simp [gatherV]
  | n + 1, b, h, t => by
    have hb : b < 49 := by omega
    have e : ∀ (x : Cell → EReal), ∑ s ∈ Finset.range (n + 1), picked x (iwin o1) (b + s)
        = picked x (iwin o1) b + ∑ s ∈ Finset.range n, picked x (iwin o1) (b + 1 + s) := by
      intro x
      rw [Finset.sum_range_succ', add_comm]
      simp only [Nat.add_zero, Nat.add_assoc, Nat.add_comm 1]
    simp only [e, ← add_assoc]
    refine (gatherV_apply X iwin n (b + 1) (by omega) _).trans ?_
    unfold ptAt
    simp only [pick_apply _ _ hb, cast8_eq, blkX_apply]
    rfl

/-- The coordinates summed out are those of the one cell of that index. -/
theorem gatherV_eq (X : Vec Ideal S1176x128 .f32) (iwin : FVec Ideal S1x1 .f32) (h : 0 + 49 ≤ 49) {w : Cell}
    (hw : (iwin o1 : EReal) = ((flat w : ℝ) : EReal)) : ptAt (gatherV X flat8 iwin 49 0 h (zero1, zero1, zero1)) = coords X w := by
  have e : ∀ x : Cell → EReal, ∑ s ∈ Finset.range 49, picked x (iwin o1) (0 + s) = x w := by
    intro x
    unfold picked
    simp only [Nat.zero_add]
    rw [← sum_cells (fun i => if ((flat i : ℝ) : EReal) = iwin o1 then x i else 0), Finset.sum_eq_single w]
    · rw [if_pos hw.symm]
    · intro i _ hi
      refine if_neg fun h => hi (flat_inj ?_)
      rw [hw, EReal.coe_eq_coe_iff] at h
      exact_mod_cast h
    · exact fun h => absurd (Finset.mem_univ _) h
  rw [gatherV_apply]
  simp only [e]
  have z : (ptAt (zero1 (F := Ideal), zero1, zero1)) = (0, 0, 0) := by
    unfold ptAt; simp only [broadcast_apply, bits_zero]
  rw [z]
  simp only [zero_add]

/-! ## The trip -/

/-- THE TRIP'S POINT: the coordinates of the first cell with the greatest new value, where that value is not negative. -/
theorem tripPt_eq (X : Vec Ideal S1176x128 .f32) (p : Pt Ideal) (D : Vec Ideal S392x128 .f32) {w : Cell} (hw : First (newAt X p D) w)
    (h0 : 0 ≤ newAt X p D w) : ptAt (tripPt X flat8 p D) = coords X w := by
  have hm := maxOf_eq (topV_lane X p D) hw.1
  have hB : ∀ i, (((chainB X p D).1 i : EReal) = maxOf (topV X p D) o1) ↔ newAt X p D i = newAt X p D w := fun i => by
    rw [chainB_cells, hm]
  unfold tripPt settleV
  split
  · next ht =>
    exact gatherV_eq X _ _ (leastV_eq _ _ _ ((hB w).2 rfl) fun i hi => hw.2 i ((hB i).1 hi))
  · next ht =>
    refine hits_eq (topV_lane X p D) hw.1 (fun h => ?_) fun i hi => unique_of_no_tie _ _ _ ht ((hB i).2 hi) ((hB w).2 rfl)
    rw [h] at h0
    exact absurd h0 (by simp)

end Cert.Fps

end
-- ==== Proof.Start.lean ====
/-
  THE START AND THE ROWS OF THE RESULT, as values: the first carried point is the first point, every point's cell starts at
  `⊤` and every other cell at `⊥`, and the row a carried point writes has its coordinates in the first three columns.
-/
module

public import proofs.«01_k».proof.Proof.Winner

@[expose] public section

noncomputable section

namespace Cert.Fps

open Idealize.ShloMosaic Idealize.ShloMosaic.ValueIdx
open Cert.KernelIdeal (S8x128 S1176x128 S8192x128 S392x128 S1x128 S1x1 S1 S128)
open Cert.KernelIdeal.Facts₀

/-- The lane numbers; a lane's compared with a small number. -/
theorem cols_apply (l : Fin 128) : cols (ix2 0 l) = BitVec.ofNat 32 l.val := by
  show BitVec.ofNat 32 (0 * 128 + l.val) = _
  rw [Nat.zero_mul, Nat.zero_add]

theorem sel_lane {α : Type} (l : Fin 128) (n : ℕ) (hn : n < 128) (p q : α) :
    Scalar.select (IntOp.cmpi .eq (cols (ix2 0 l)) (BitVec.ofNat 32 n)) p q = if l.val = n then p else q := by
  rw [cols_apply]
  have hl := l.isLt
  have e : (BitVec.ofNat 32 l.val = BitVec.ofNat 32 n) ↔ l.val = n := by
    constructor
    · intro h
      have := congrArg BitVec.toNat h
      simp only [BitVec.toNat_ofNat] at this
      omega
    · intro h; rw [h]
  show Scalar.select (BitVec.ofBool (BitVec.ofNat 32 l.val == BitVec.ofNat 32 n)) p q = _
  by_cases h : l.val = n
  · rw [if_pos h, h]; simp [Scalar.select]
  · have h' : ¬(BitVec.ofNat 32 l.val = BitVec.ofNat 32 n) := fun x => h (e.1 x)
    rw [if_neg h, beq_false_of_ne h']; simp [Scalar.select]

/-- The first entry of a row. -/
theorem firstOf_apply (v : FVec Ideal S1x128 .f32) : (firstOf v o1 : EReal) = v (ix2 0 0) := by
  have e : ∀ l : Fin 128, (select (cmpi .eq cols (broadcast S1x128 0#32)) (shapeCast S1x128 v shapeCasts_S1x128_S1x128)
      (broadcast S1x128 (Scalar.ofBits .f32 0x00000000#32)) : FVec Ideal S1x128 .f32) (ix2 0 l) = if l.val = 0 then v (ix2 0 l) else (0 : EReal) := by
    intro l
    rw [select_apply, shapeCast_self, broadcast_apply, bits_zero]
    exact sel_lane l 0 (by decide) _ _
  unfold firstOf
  rw [rowSum_apply]
  refine (Finset.sum_congr rfl fun l _ => e l).trans ?_
  rw [Finset.sum_eq_single (0 : Fin 128)]
  · rfl
  · intro l _ hl
    exact if_neg fun h => hl (Fin.ext h)
  · exact fun h => absurd (Finset.mem_univ _) h

/-- The first carried point is that of the first cell. -/
theorem point0_eq (X : Vec Ideal S1176x128 .f32) : ptAt (point0 X) = coords X (ix2 0 0) := by
  have e : ∀ (o : ℕ) (ho : o ≤ 784) (h : ∀ a, (![o, 0] : Fin 2 → Nat) a + S1x128.size a ≤ S1176x128.size a),
      (fun j => X ((rRow o h).emb j) : FVec Ideal S1x128 .f32) (ix2 0 0) = X (inPlane o ho (ix2 0 0)) := fun o ho h => by
    refine congrArg X ?_
    funext a; match a with
    | 0 => rfl
    | 1 => rfl
  unfold ptAt point0 coords
  simp only [firstOf_apply]
  exact Prod.ext (e 0 _ _) (Prod.ext (e 392 _ _) (e 784 _ _))

/-- What the cells start from. -/
theorem dist0_apply (i : Cell) : (dist0 (F := Ideal) i : EReal) = if flat i < 50000 then ⊤ else ⊥ := by
  have h0 := idx2_lt0 i
  have h1 := idx2_lt1 i
  have hf := flat_lt i
  have e : (addi (muli (iota .tc S392x128 32 [0] iota_S392x128_d0_w32) (broadcast S392x128 128#32)) (iota .tc S392x128 32 [1] iota_S392x128_d1_w32)) i
      = BitVec.ofNat 32 (flat i) := by
    show BitVec.ofNat 32 (0 * 392 + (i 0).val) * BitVec.ofNat 32 128 + BitVec.ofNat 32 (0 * 128 + (i 1).val) = _
    rw [← BitVec.ofNat_mul, ← BitVec.ofNat_add]
    refine congrArg (BitVec.ofNat 32) ?_
    unfold flat; omega
  have hs : IntOp.cmpi .slt (BitVec.ofNat 32 (flat i)) 50000#32 = BitVec.ofBool (decide (flat i < 50000)) := by
    show BitVec.ofBool (BitVec.slt (BitVec.ofNat 32 (flat i)) (BitVec.ofNat 32 50000)) = _
    rw [BitVec.slt, word_toInt (by omega), word_toInt (by omega)]
    refine congrArg BitVec.ofBool (decide_eq_decide.2 ?_)
    exact Nat.cast_lt
  show (Scalar.select (IntOp.cmpi .slt ((addi (muli (iota .tc S392x128 32 [0] iota_S392x128_d0_w32) (broadcast S392x128 128#32))
    (iota .tc S392x128 32 [1] iota_S392x128_d1_w32)) i) 50000#32) (Scalar.ofBits .f32 0x7F800000#32 : Ideal .f32) (Scalar.ofBits .f32 0xFF800000#32 : Ideal .f32) : EReal) = _
  rw [e, hs, bits_top, bits_bot]
  by_cases h : flat i < 50000 <;> simp [h, Scalar.select]

/-- The first three columns of the row a point writes. -/
theorem outRow_apply (p : Pt Ideal) (l : Fin 128) :
    (outRow cols p (ix2 0 l) : EReal) = if l.val = 0 then (ptAt p).1 else if l.val = 1 then (ptAt p).2.1 else (ptAt p).2.2 := by
  unfold outRow ptAt
  simp only [select_apply, spread1, shapeCast_self]
  refine (sel_lane l 0 (by decide) _ _).trans ?_
  split
  · rfl
  · exact sel_lane l 1 (by decide) _ _

end Cert.Fps

end
-- ==== Proof.RefStep.lean ====
/-
  ONE PASS OF THE REFERENCE, as values: the running minimum after a pass, the first index of its greatest entry, the
  index noted, and the rows read at the noted indices.
-/
module

public import proofs.«01_k».proof.Proof.RefRun
public import Idealize.ShloMosaic.Lib.ValueIdx
public import Idealize.ShloMosaic.PureOps.Ideal.Laws
public import Idealize.ShloMosaic.Lib.Pipeline.Value

@[expose] public section

noncomputable section

namespace Cert.Proof.Reference

open Cert.ReferenceIdeal Cert.ReferenceIdeal.Gen

open Idealize.ShloMosaic Idealize.ShloMosaic.ValueIdx

/-! ## Words -/

/-- A small number's word, read signed, is the number. -/
theorem word_toInt {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- An index that is not negative is read as it is. -/
theorem wrap_apply {s : Shape} (w : BitVec 32) (i : Vec Ideal s .i32) (j : s.Idx) {n : ℕ} (h : i j = BitVec.ofNat 32 n) (hn : n < 2 ^ 31) :
    wrap (F := Ideal) w i j = BitVec.ofNat 32 n := by
  have e : IntOp.cmpi .slt (BitVec.ofNat 32 n) 0#32 = 0#1 := by
    show BitVec.ofBool (BitVec.slt (BitVec.ofNat 32 n) 0#32) = 0#1
    have : BitVec.slt (BitVec.ofNat 32 n) 0#32 = false := by
      rw [BitVec.slt, word_toInt hn]; simp
    rw [this]; rfl
  unfold wrap
  rw [h, e, select_zero]

/-! ## The running minimum -/

/-- The last picked point's coordinates. -/
theorem rowAt_apply (P : Vec Ideal S50000x3 .f32) (last : Vec Ideal S_ .i32) (ℓ : Fin 50000) (hl : ∀ j, last j = BitVec.ofNat 32 ℓ.val) (a : Fin 3) :
    rowAt P last (ix1 a) = P (ix2 ℓ a) := by
  unfold rowAt
  refine (shapeCast_apply _ shapeCasts_S1x3_S3 (ix1 a) (ix2 0 a) ?_).trans ?_
  · rw [Shape.rowMajor_val_one, Shape.rowMajor_val_two]
    show 0 * 3 + a.val = a.val
    omega
  · unfold Host.dynamicSlice extractStridedSlice
    refine congrArg P ?_
    funext b; match b with
    | 0 =>
      apply Fin.ext
      show (min (max ((wrap (F := Ideal) 50000#32 last (Shape.Idx.first h_S_)).toInt) 0) ((50000 - 1 : ℕ) : ℤ)).toNat + 0 = ℓ.val
      have := ℓ.isLt
      rw [wrap_apply _ _ _ (hl _) (by omega), word_toInt (by omega)]
      omega
    | 1 =>
      apply Fin.ext
      show (min (max ((0#32 : BitVec 32).toInt) 0) ((3 - 3 : ℕ) : ℤ)).toNat + a.val = a.val
      simp

/-- The squared distance from point `q` to point `ℓ`, as the reference adds it up. -/
def sqd (P : Vec Ideal S50000x3 .f32) (ℓ q : Fin 50000) : EReal :=
  (P (ix2 q 0) - P (ix2 ℓ 0)) * (P (ix2 q 0) - P (ix2 ℓ 0)) + (P (ix2 q 1) - P (ix2 ℓ 1)) * (P (ix2 q 1) - P (ix2 ℓ 1))
    + (P (ix2 q 2) - P (ix2 ℓ 2)) * (P (ix2 q 2) - P (ix2 ℓ 2))

theorem bits_zero' : Ideal.ofBits .f32 0x00000000#32 = 0 := by
  simp [Ideal.ofBits, Ideal.ieee]

theorem diffs_apply (P : Vec Ideal S50000x3 .f32) (last : Vec Ideal S_ .i32) (ℓ : Fin 50000) (hl : ∀ j, last j = BitVec.ofNat 32 ℓ.val) (q : Fin 50000)
    (a : Fin 3) : (diffs P last (ix2 q a) : EReal) = P (ix2 q a) - P (ix2 ℓ a) := by
  unfold diffs
  rw [subf_apply]
  congr 1
  refine Eq.trans ?_ (rowAt_apply P last ℓ hl a)
  refine congrArg (rowAt P last) ?_
  funext b; match b with
  | 0 => rfl

/-- The sum over the three coordinates. -/
theorem sum3_apply (x : FVec Ideal S50000x3 .f32) (init : FVec Ideal S_ .f32) (q : Fin 50000) :
    (Host.reduceAdd x init reducesTo_S50000x3_S50000_d1 h_S_ (ix1 q) : EReal)
      = init (Shape.Idx.first h_S_) + (x (ix2 q 0) + x (ix2 q 1) + x (ix2 q 2)) := by
  have hr : S50000x3.Reduces [1] S50000 := by decide
  have e := Ideal.hostReduceAdd_single reducesTo_S50000x3_S50000_d1 hr x (init (Shape.Idx.first h_S_)) (ix1 q)
  have l : ∀ k : Fin 3, hr.lift (ix1 q) k = ix2 q k := fun k => by
    funext b; match b with
    | 0 => rfl
    | 1 => rfl
  refine Eq.trans e ?_
  congr 1
  refine (Finset.sum_congr rfl fun k _ => congrArg x (l k)).trans ?_
  exact Fin.sum_univ_three _

theorem nextD_apply (P : Vec Ideal S50000x3 .f32) (last : Vec Ideal S_ .i32) (ℓ : Fin 50000) (hl : ∀ j, last j = BitVec.ofNat 32 ℓ.val)
    (D : Vec Ideal S50000 .f32) (q : Fin 50000) : (nextD P last D (ix1 q) : EReal) = min (D (ix1 q)) (sqd P ℓ q) := by
  unfold nextD sqd
  rw [minimumf_apply, sum3_apply]
  simp only [mulf_apply, diffs_apply P last ℓ hl, constant_apply, bits_zero', zero_add]

/-! ## The first index of the greatest entry -/

/-- Between two entries with their indices, the second is at least as good: greater, or equal with an index no later. -/
def Beats (a b : EReal × BitVec 32) : Prop := a.1 < b.1 ∨ a.1 = b.1 ∧ b.2.toInt ≤ a.2.toInt

theorem Beats.refl (a : EReal × BitVec 32) : Beats a a := .inr ⟨rfl, le_refl _⟩

theorem Beats.trans {a b c : EReal × BitVec 32} (h : Beats a b) (h' : Beats b c) : Beats a c := by
  rcases h with h | ⟨h, k⟩ <;> rcases h' with h' | ⟨h', k'⟩
  · exact .inl (h.trans h')
  · exact .inl (h' ▸ h)
  · exact .inl (h ▸ h')
  · exact .inr ⟨h.trans h', k'.trans k⟩

/-- The reducer's choice between two entries. -/
theorem reducer_apply (a b : EReal × BitVec 32) :
    reducer_argmax_f32_i32 (F := Ideal) a b = if b.1 < a.1 ∨ (a.1 = b.1 ∧ a.2.toInt < b.2.toInt) then a else b := by
  obtain ⟨x, i⟩ := a
  obtain ⟨y, k⟩ := b
  have hs : IntOp.cmpi .slt i k = BitVec.ofBool (decide (i.toInt < k.toInt)) := rfl
  unfold reducer_argmax_f32_i32
  show (Scalar.select (Ideal.cmp .ogt x y ||| Ideal.cmp .une x x) x y,
    Scalar.select ((Ideal.cmp .ogt x y ||| Ideal.cmp .une x x) ||| (Ideal.cmp .oeq x y &&& IntOp.cmpi .slt i k)) i k) = _
  rw [hs]
  rcases lt_trichotomy x y with h | h | h
  · simp [Ideal.cmp, h.not_gt, h.ne, Scalar.select]
  · subst h
    by_cases hk : i.toInt < k.toInt <;> simp [Ideal.cmp, hk, Scalar.select]
  · simp [Ideal.cmp, h, h.ne', Scalar.select]

theorem reducer_beats (a b : EReal × BitVec 32) :
    Beats a (reducer_argmax_f32_i32 (F := Ideal) a b) ∧ Beats b (reducer_argmax_f32_i32 (F := Ideal) a b) ∧
      (reducer_argmax_f32_i32 (F := Ideal) a b = a ∨ reducer_argmax_f32_i32 (F := Ideal) a b = b) := by
  rw [reducer_apply]
  split
  · next h =>
    refine ⟨Beats.refl a, ?_, .inl rfl⟩
    rcases h with h | ⟨h, h'⟩
    · exact .inl h
    · exact .inr ⟨h.symm, h'.le⟩
  · next h =>
    refine ⟨?_, Beats.refl b, .inr rfl⟩
    rw [not_or, not_and, not_lt, not_lt] at h
    rcases h.1.lt_or_eq with h' | h'
    · exact .inl h'
    · exact .inr ⟨h', h.2 h'⟩

/-- A left fold of the reducer is one of its entries, and beats them all. -/
theorem foldl_beats (L : List (EReal × BitVec 32)) : ∀ s : EReal × BitVec 32,
    (∀ a ∈ s :: L, Beats a (L.foldl (reducer_argmax_f32_i32 (F := Ideal)) s)) ∧ L.foldl (reducer_argmax_f32_i32 (F := Ideal)) s ∈ s :: L := by
  induction L with
  | nil => intro s; simp [Beats.refl]
  | cons b L ih =>
    intro s
    obtain ⟨h1, h2⟩ := ih (reducer_argmax_f32_i32 (F := Ideal) s b)
    obtain ⟨ha, hb, hab⟩ := reducer_beats s b
    have h0 := h1 _ (List.mem_cons_self ..)
    refine ⟨fun a hm => ?_, ?_⟩
    · rcases List.mem_cons.1 hm with rfl | hm
      · exact ha.trans h0
      · rcases List.mem_cons.1 hm with rfl | hm
        · exact hb.trans h0
        · exact h1 a (List.mem_cons_of_mem _ hm)
    · rw [List.foldl_cons]
      rcases List.mem_cons.1 h2 with h | h
      · rw [h]
        rcases hab with e | e <;> rw [e]
        · exact List.mem_cons_self ..
        · exact List.mem_cons_of_mem _ (List.mem_cons_self ..)
      · exact List.mem_cons_of_mem _ (List.mem_cons_of_mem _ h)

/-- Entry `ℓ` is the first with the greatest value. -/
def IsFirst (D : Vec Ideal S50000 .f32) (ℓ : Fin 50000) : Prop :=
  (∀ q, (D (ix1 q) : EReal) ≤ D (ix1 ℓ)) ∧ ∀ q, (D (ix1 q) : EReal) = D (ix1 ℓ) → ℓ.val ≤ q.val

theorem mem_fiber (D : Vec Ideal S50000 .f32) (I : IVec S50000 32) (j : S_.Idx) (a : EReal × BitVec 32) :
    a ∈ Host.argReduceFiber D I reducesTo_S50000_S_d0 j ↔ ∃ q : Fin 50000, a = (D (ix1 q), I (ix1 q)) := by
  unfold Host.argReduceFiber
  rw [List.mem_map]
  constructor
  · rintro ⟨n, _, rfl⟩
    obtain ⟨q, hq⟩ : ∃ q : Fin 50000, S50000.rowMajor.symm n = ix1 q := ⟨_, eq_ix1 _⟩
    exact ⟨q, by rw [hq]⟩
  · rintro ⟨q, rfl⟩
    refine ⟨S50000.rowMajor (ix1 q), List.mem_filter.2 ⟨List.mem_finRange _, ?_⟩, by rw [Equiv.symm_apply_apply]⟩
    exact decide_eq_true (funext fun b => b.elim0)

/-- THE FARTHEST POINT: where no entry is negative, the first index of the greatest one. -/
theorem farthest_spec (D : Vec Ideal S50000 .f32) (h0 : ∀ q, (0 : EReal) ≤ D (ix1 q)) :
    ∃ ℓ : Fin 50000, (∀ j, farthest D j = BitVec.ofNat 32 ℓ.val) ∧ IsFirst D ℓ := by
  have key : ∀ j, ∃ ℓ : Fin 50000, farthest D j = BitVec.ofNat 32 ℓ.val ∧ IsFirst D ℓ := by
    intro j
    have e : farthest D j = ((Host.argReduceFiber D (iotaInDim S50000 32 0) reducesTo_S50000_S_d0 j).foldl (reducer_argmax_f32_i32 (F := Ideal))
        ((constant (F := Ideal) S_ .f32 0xFF800000#32) (Shape.Idx.first h_S_), (constantI S_ 32 0#32) (Shape.Idx.first h_S_))).2 := by
      unfold farthest
      rw [Ideal.argReduce_eq_reduce2, Host.reduce2_eq_foldl_fiber]
    rw [e]
    obtain ⟨h1, h2⟩ := foldl_beats (Host.argReduceFiber D (iotaInDim S50000 32 0) reducesTo_S50000_S_d0 j)
      ((constant (F := Ideal) S_ .f32 0xFF800000#32) (Shape.Idx.first h_S_), (constantI S_ 32 0#32) (Shape.Idx.first h_S_))
    generalize List.foldl _ _ _ = r at h1 h2 ⊢
    have hq : ∀ q : Fin 50000, Beats (D (ix1 q), BitVec.ofNat 32 q.val) r := fun q =>
      h1 _ (List.mem_cons_of_mem _ ((mem_fiber D _ j _).2 ⟨q, rfl⟩))
    rcases List.mem_cons.1 h2 with h | h
    · exfalso
      have hb : r.1 = ⊥ := by
        rw [h]
        show Ideal.ofBits .f32 0xFF800000#32 = ⊥
        simp [Ideal.ofBits, Ideal.ieee]
      have hn := h0 ⟨0, by decide⟩
      rcases hq ⟨0, by decide⟩ with h' | ⟨h', _⟩
      · rw [hb] at h'; exact absurd h' (by simp)
      · rw [hb] at h'; simp only at h'; rw [h'] at hn; exact absurd hn (by simp)
    · obtain ⟨ℓ, rfl⟩ := (mem_fiber D _ j _).1 h
      refine ⟨ℓ, rfl, fun q => ?_, fun q hq' => ?_⟩
      · rcases hq q with h' | ⟨h', _⟩
        · exact h'.le
        · exact h'.le
      · rcases hq q with h' | ⟨_, h'⟩
        · exact absurd hq' h'.ne
        · have e1 : ((iotaInDim S50000 32 0) (ix1 ℓ) : BitVec 32).toInt = ℓ.val := word_toInt (n := ℓ.val) (by have := ℓ.isLt; omega)
          have := q.isLt
          simp only [e1] at h'
          rw [word_toInt (by omega)] at h'
          exact_mod_cast h'
  obtain ⟨ℓ, e, h⟩ := key (Shape.Idx.first h_S_)
  refine ⟨ℓ, fun j => ?_, h⟩
  have : j = Shape.Idx.first h_S_ := funext fun b => b.elim0
  rw [this, e]

/-! ## The noted indices -/

/-- The one update's place. -/
theorem place_apply (j : S_.Idx) (idx : IVec S1 32) {k : ℕ} (hk : k < 8192) (hi : ∀ x, idx x = BitVec.ofNat 32 k) :
    (scatter_S8192_S1_S__n_0_0_0).resultIdx? j idx = some (ix1 (n := 8192) ⟨k, hk⟩) := by
  have hs : ∀ a, (scatter_S8192_S1_S__n_0_0_0).start j idx a = k := fun a => by
    have ha : a ∈ (scatter_S8192_S1_S__n_0_0_0).scatterDimsToOperandDims :=
      List.mem_singleton.2 (Subsingleton.elim (α := Fin 1) a 0)
    unfold ScatterDims.start
    rw [dif_pos ha, hi, word_toInt (by omega)]
  have hw : ∀ a, (scatter_S8192_S1_S__n_0_0_0).window j a = 0 := fun a => by
    obtain rfl : a = 0 := Subsingleton.elim (α := Fin 1) _ _
    rfl
  unfold ScatterDims.resultIdx?
  rw [dif_pos (fun a => by
    rw [hs, hw]
    obtain rfl : a = 0 := Subsingleton.elim (α := Fin 1) _ _
    exact ⟨by omega, by show (k : ℤ) + (0 : ℕ) < (8192 : ℕ); omega⟩)]
  refine congrArg some (funext fun a => Fin.ext ?_)
  obtain rfl : a = 0 := Subsingleton.elim (α := Fin 1) _ _
  show ((scatter_S8192_S1_S__n_0_0_0).start j idx 0 + (scatter_S8192_S1_S__n_0_0_0).window j 0).toNat = k
  rw [hs, hw]
  omega

/-- One entry replaced. -/
theorem scatter_apply (I : Vec Ideal S8192 .i32) (idx : IVec S1 32) (u : Vec Ideal S_ .i32) {k : ℕ} (hk : k < 8192)
    (hi : ∀ x, idx x = BitVec.ofNat 32 k) {w : BitVec 32} (hw : ∀ j, u j = w) (r : Fin 8192) :
    Host.scatter scatter_S8192_S1_S__n_0_0_0 (fun _ b => b) I idx u (ix1 r) = if r.val = k then w else I (ix1 r) := by
  have hl : List.finRange S_.numel = [⟨0, h_S_⟩] := by decide
  unfold Host.scatter
  rw [hl, List.foldl_cons, List.foldl_nil, place_apply _ _ hk hi, hw]
  show (if ix1 r = ix1 ⟨k, hk⟩ then w else I (ix1 r)) = _
  by_cases h : r.val = k
  · obtain rfl : r = ⟨k, hk⟩ := Fin.ext h
    rw [if_pos rfl, if_pos rfl]
  · rw [if_neg h, if_neg fun e => h (congrArg (fun i : S8192.Idx => (i 0).val) e)]

/-- The note at place `k` replaces the entry there. -/
theorem note_apply (I : Vec Ideal S8192 .i32) (i last : Vec Ideal S_ .i32) {k : ℕ} (hk : k < 8192) (hi : ∀ j, i j = BitVec.ofNat 32 k)
    {w : BitVec 32} (hw : ∀ j, last j = w) (r : Fin 8192) :
    note (F := Ideal) I i last (ix1 r) = if r.val = k then w else I (ix1 r) :=
  scatter_apply I _ last hk (fun x => wrap_apply _ i _ (hi _) (by omega)) hw r

/-- The rows read at the noted indices. -/
theorem refRows_apply (P : Vec Ideal S50000x3 .f32) (I : Vec Ideal S8192 .i32) (r : Fin 8192) (ℓ : Fin 50000)
    (h : I (ix1 r) = BitVec.ofNat 32 ℓ.val) (a : Fin 3) : refRows P I (ix2 r a) = P (ix2 ℓ a) := by
  have hl := ℓ.isLt
  have h0 : (0 : Fin 2) ∈ (gather_S50000x3_S8192x1_S8192x3_1_0_n_n_0_1_13).startIndexMap := List.mem_singleton.2 rfl
  have h1 : (1 : Fin 2) ∉ (gather_S50000x3_S8192x1_S8192x3_1_0_n_n_0_1_13).startIndexMap := by
    show (1 : Fin 2) ∉ ([0] : List (Fin 2)); decide
  have hsi : (gather_S50000x3_S8192x1_S8192x3_1_0_n_n_0_1_13).siIdx (ix2 r a)
      ⟨List.idxOf (0 : Fin 2) (gather_S50000x3_S8192x1_S8192x3_1_0_n_n_0_1_13).startIndexMap, List.idxOf_lt_length_iff.2 h0⟩ = ix2 r 0 := by
    funext b; match b with
    | 0 => rfl
    | 1 => rfl
  have hv : broadcastInDim S8192x1 ![0] bcast_S8192_S8192x1_0 (wrap (F := Ideal) 50000#32 I) (ix2 r 0) = BitVec.ofNat 32 ℓ.val := by
    refine wrap_apply _ I _ (Eq.trans (congrArg I ?_) h) (by omega)
    funext b; match b with
    | 0 => rfl
  unfold refRows Host.gather
  refine congrArg P ?_
  funext b; match b with
  | 0 =>
    apply Fin.ext
    show (gather_S50000x3_S8192x1_S8192x3_1_0_n_n_0_1_13).start _ _ 0 + 0 + 0 = ℓ.val
    unfold GatherDims.start
    rw [dif_pos h0, hsi, hv, word_toInt (by omega)]
    show min (ℓ.val : ℤ).toNat (50000 - 1) + 0 + 0 = ℓ.val
    omega
  | 1 =>
    apply Fin.ext
    show (gather_S50000x3_S8192x1_S8192x3_1_0_n_n_0_1_13).start _ _ 1 + 0 + a.val = a.val
    unfold GatherDims.start
    rw [dif_neg h1]
    omega

end Cert.Proof.Reference

end
-- ==== Proof.Match.lean ====
/-
  THE KERNEL AND THE REFERENCE, step by step. With the points staged in planes, every cell of the kernel's running minimum
  holds the reference's running minimum of its point (and `⊥` beyond the points), the carried point is the reference's last
  picked one, and so is every point noted so far; hence the two results are equal.
-/
module

public import proofs.«01_k».proof.Proof.Start
public import proofs.«01_k».proof.Proof.RefStep

@[expose] public section

noncomputable section

namespace Cert.Proof

open Idealize.ShloMosaic Idealize.ShloMosaic.ValueIdx
open Cert.Fps
open Cert.KernelIdeal (S1176x128 S392x128 S8192x128)
open Cert.ReferenceIdeal (S50000x3 S50000 S8192 S8192x3 S_)
open Cert.Proof.Reference (refState refRows nextD farthest sqd nextD_apply farthest_spec IsFirst note_apply scatter_apply refRows_apply)

/-- A point's three coordinates. -/
def row (P : Vec Ideal S50000x3 .f32) (q : Fin 50000) : EReal × EReal × EReal := (P (ix2 q 0), P (ix2 q 1), P (ix2 q 2))

/-- The cell of a point. -/
def cellAt (q : Fin 50000) : Cell := ix2 ⟨q.val / 128, by have := q.isLt; omega⟩ ⟨q.val % 128, Nat.mod_lt _ (by decide)⟩

theorem flat_cellAt (q : Fin 50000) : flat (cellAt q) = q.val := by
  show 128 * (q.val / 128) + q.val % 128 = q.val
  omega

/-- The staged points: the cell of flat index `q` has the coordinates of point `q`. -/
def Staged (P : Vec Ideal S50000x3 .f32) (X : Vec Ideal S1176x128 .f32) : Prop := ∀ (i : Cell) (h : flat i < 50000), coords X i = row P ⟨flat i, h⟩

/-- The kernel's running minimum holds the reference's. -/
def Holds (D' : Vec Ideal S392x128 .f32) (D : Vec Ideal S50000 .f32) : Prop :=
  ∀ i : Cell, (D' i : EReal) = if h : flat i < 50000 then D (ix1 ⟨flat i, h⟩) else ⊥

variable {P : Vec Ideal S50000x3 .f32} {X : Vec Ideal S1176x128 .f32}

theorem Staged.at (hX : Staged P X) (q : Fin 50000) : coords X (cellAt q) = row P q := by
  rw [hX _ (by rw [flat_cellAt]; exact q.isLt)]
  exact congrArg (row P) (Fin.ext (flat_cellAt q))

theorem sq_nonneg (x : EReal) : 0 ≤ x * x := by
  rcases le_total 0 x with h | h
  · exact mul_nonneg h h
  · rw [← neg_mul_neg]
    have : 0 ≤ -x := by rwa [EReal.le_neg, neg_zero]
    exact mul_nonneg this this

theorem sqd_nonneg (ℓ q : Fin 50000) : 0 ≤ sqd P ℓ q :=
  add_nonneg (add_nonneg (sq_nonneg _) (sq_nonneg _)) (sq_nonneg _)

/-- The two squared distances are the same sum. -/
theorem sq_eq (hX : Staged P X) {p : Pt Ideal} {ℓ : Fin 50000} (hp : ptAt p = row P ℓ) (i : Cell) (h : flat i < 50000) :
    sq X p i = sqd P ℓ ⟨flat i, h⟩ := by
  have hi := hX i h
  have x1 : X (inPlane 0 (by omega) i) = P (ix2 ⟨flat i, h⟩ 0) := congrArg Prod.fst hi
  have x2 : X (inPlane 392 (by omega) i) = P (ix2 ⟨flat i, h⟩ 1) := congrArg (fun c => c.2.1) hi
  have x3 : X (inPlane 784 (by omega) i) = P (ix2 ⟨flat i, h⟩ 2) := congrArg (fun c => c.2.2) hi
  have p1 : p.1 o1 = P (ix2 ℓ 0) := congrArg Prod.fst hp
  have p2 : p.2.1 o1 = P (ix2 ℓ 1) := congrArg (fun c => c.2.1) hp
  have p3 : p.2.2 o1 = P (ix2 ℓ 2) := congrArg (fun c => c.2.2) hp
  unfold Cert.Fps.sq sqd
  rw [x1, x2, x3, p1, p2, p3]
  exact add_right_comm _ _ _

/-- The new running minima agree. -/
theorem Holds.next (hX : Staged P X) {D' : Vec Ideal S392x128 .f32} {D : Vec Ideal S50000 .f32} (hD : Holds D' D) {p : Pt Ideal} {ℓ : Fin 50000}
    (hp : ptAt p = row P ℓ) {last : Vec Ideal S_ .i32} (hl : ∀ j, last j = BitVec.ofNat 32 ℓ.val) :
    Holds (newAt X p D') (nextD P last D) := by
  intro i
  unfold newAt
  rw [hD i]
  split
  · next h => rw [nextD_apply P last ℓ hl, sq_eq hX hp i h]
  · exact bot_inf_eq _

/-- The first point with the greatest value has the first cell with it. -/
theorem first_cellAt {N : Vec Ideal S392x128 .f32} {D : Vec Ideal S50000 .f32} (hN : Holds N D) {ℓ : Fin 50000} (hl : IsFirst D ℓ)
    (h0 : (0 : EReal) ≤ D (ix1 ℓ)) : First N (cellAt ℓ) ∧ (N (cellAt ℓ) : EReal) = D (ix1 ℓ) := by
  have e : (N (cellAt ℓ) : EReal) = D (ix1 ℓ) := by
    rw [hN, dif_pos (by rw [flat_cellAt]; exact ℓ.isLt)]
    exact congrArg (fun q => (D (ix1 q) : EReal)) (Fin.ext (flat_cellAt ℓ))
  refine ⟨⟨fun i => ?_, fun i hi => ?_⟩, e⟩
  · rw [e, hN i]
    split
    · exact hl.1 _
    · exact bot_le
  · rw [e, hN i] at hi
    rw [flat_cellAt]
    split at hi
    · next h => exact hl.2 ⟨flat i, h⟩ hi
    · rw [← hi] at h0; exact absurd h0 (by simp)

/-- What the two runs share after `k` passes. -/
structure Agree (P : Vec Ideal S50000x3 .f32) (X : Vec Ideal S1176x128 .f32) (k : ℕ) : Prop where
  holds : Holds (stateV X k).2 (refState P k).1
  nonneg : ∀ q, (0 : EReal) ≤ (refState P k).1 (ix1 q)
  last : ∃ ℓ : Fin 50000, (∀ j, (refState P k).2.1 j = BitVec.ofNat 32 ℓ.val) ∧ ptAt (stateV X k).1 = row P ℓ
  noted : ∀ r : Fin 8192, r.val ≤ k → ∃ ℓ : Fin 50000, (refState P k).2.2 (ix1 r) = BitVec.ofNat 32 ℓ.val ∧ ptAt (stateV X r.val).1 = row P ℓ

theorem agree_zero (hX : Staged P X) : Agree P X 0 := by
  have hp : ptAt (stateV X 0).1 = row P ⟨0, by decide⟩ := (point0_eq X).trans (hX (ix2 0 0) (by decide))
  have ht : ∀ q : Fin 50000, ((refState P 0).1 (ix1 q) : EReal) = ⊤ := fun q => by
    show Ideal.ofBits .f32 0x7F800000#32 = ⊤
    simp [Ideal.ofBits, Ideal.ieee]
  refine ⟨fun i => ?_, fun q => ?_, ⟨⟨0, by decide⟩, fun j => rfl, hp⟩, fun r hr => ⟨⟨0, by decide⟩, ?_, ?_⟩⟩
  · simp only [ht]
    exact dist0_apply i
  · rw [ht]; exact le_top
  · refine (scatter_apply _ _ _ (k := 0) (by decide) (fun x => rfl) (w := 0#32) (fun j => rfl) r).trans ?_
    exact if_pos (by omega)
  · rw [show r.val = 0 by omega]; exact hp

/-- One pass of both, from states that agree. -/
theorem pass_agree (hX : Staged P X) {D' : Vec Ideal S392x128 .f32} {D : Vec Ideal S50000 .f32} (hD : Holds D' D)
    (h0 : ∀ q, (0 : EReal) ≤ D (ix1 q)) {p : Pt Ideal} {ℓ : Fin 50000} (hp : ptAt p = row P ℓ) {last : Vec Ideal S_ .i32}
    (hl : ∀ j, last j = BitVec.ofNat 32 ℓ.val) :
    Holds (chainB X p D').1 (nextD P last D) ∧ (∀ q, (0 : EReal) ≤ nextD P last D (ix1 q))
      ∧ ∃ ℓ' : Fin 50000, (∀ j, farthest (nextD P last D) j = BitVec.ofNat 32 ℓ'.val) ∧ ptAt (tripPt X flat8 p D') = row P ℓ' := by
  have hN := Holds.next hX hD hp hl
  have h0' : ∀ q, (0 : EReal) ≤ nextD P last D (ix1 q) := fun q => by
    rw [nextD_apply P _ ℓ hl]; exact le_min (h0 q) (sqd_nonneg ℓ q)
  refine ⟨fun i => (chainB_cells X p D' i).trans (hN i), h0', ?_⟩
  generalize nextD P last D = D₁ at hN h0' ⊢
  obtain ⟨ℓ', hl', hf⟩ := farthest_spec D₁ h0'
  obtain ⟨hw, hv⟩ := first_cellAt hN hf (h0' ℓ')
  have hv0 : (0 : EReal) ≤ newAt X p D' (cellAt ℓ') := le_of_le_of_eq (h0' ℓ') (Eq.symm hv)
  exact ⟨ℓ', hl', (tripPt_eq X p D' hw hv0).trans (hX.at ℓ')⟩

/-- One more pass of the kernel: the picked point. -/
theorem stateV_pt (X : Vec Ideal S1176x128 .f32) (k : ℕ) : (stateV X (k + 1)).1 = tripPt X flat8 (stateV X k).1 (stateV X k).2 := by
  rw [stateV, tripV]

/-- One more pass of the kernel: the running minimum. -/
theorem stateV_min (X : Vec Ideal S1176x128 .f32) (k : ℕ) : (stateV X (k + 1)).2 = (chainB X (stateV X k).1 (stateV X k).2).1 := by
  rw [stateV, tripV]

theorem agree_succ (hX : Staged P X) {k : ℕ} (hk : k + 1 < 8192) (h : Agree P X k) : Agree P X (k + 1) := by
  obtain ⟨hD, h0, ⟨ℓ, hl, hp⟩, hn⟩ := h
  obtain ⟨hN, h0', ℓ', hl', hp'⟩ := pass_agree hX hD h0 hp hl
  have hq : ptAt (stateV X (k + 1)).1 = row P ℓ' := (congrArg ptAt (stateV_pt X k)).trans hp'
  refine ⟨?_, ?_, ⟨ℓ', ?_, hq⟩, fun r hr => ?_⟩
  · rw [stateV_min]; simp only [refState]; exact hN
  · simp only [refState]; exact h0'
  · simp only [refState]; exact hl'
  · by_cases hrk : r.val = k + 1
    · refine ⟨ℓ', ?_, ?_⟩
      · simp only [refState]
        exact (note_apply _ _ _ hk (fun _ => rfl) hl' r).trans (if_pos hrk)
      · rw [hrk]; exact hq
    · obtain ⟨ℓ₀, e0, q0⟩ := hn r (by omega)
      refine ⟨ℓ₀, ?_, q0⟩
      simp only [refState]
      exact (note_apply _ _ _ hk (fun _ => rfl) hl' r).trans ((if_neg hrk).trans e0)

theorem agree (hX : Staged P X) : ∀ k, k < 8192 → Agree P X k
  | 0, _ => agree_zero hX
  | k + 1, h => agree_succ hX h (agree hX k (by omega))

/-- The argument transposed, each axis filled up to `50176`, the axes one under the other, is the points staged. -/
theorem staged (P : Vec Ideal S50000x3 .f32) (z : Vec Ideal S_ .f32) (ht : S50000x3.Transposes [1, 0] Cert.KernelIdeal.S3x50000)
    (hp : Cert.KernelIdeal.S3x50000.Pads ![0, 0] ![0, 176] ![0, 0] Cert.KernelIdeal.S3x50176) (h0 : 0 < S_.numel)
    (hc : Cert.KernelIdeal.S3x50176.ShapeCasts S1176x128) :
    Staged P (shapeCast S1176x128 (pad Cert.KernelIdeal.S3x50176 ![0, 0] ![0, 176] ![0, 0] (transpose Cert.KernelIdeal.S3x50000 [1, 0] P ht) z hp h0) hc) := by
  intro i h
  have key : ∀ (a : Fin 3) (o : ℕ) (ho : o ≤ 784), o = 392 * a.val →
      (shapeCast S1176x128 (pad Cert.KernelIdeal.S3x50176 ![0, 0] ![0, 176] ![0, 0] (transpose Cert.KernelIdeal.S3x50000 [1, 0] P ht) z hp h0) hc
        (inPlane o ho i) : EReal) = P (ix2 ⟨flat i, h⟩ a) := by
    intro a o ho e
    have hf : flat i < 50176 := by omega
    have hfl : flat i = 128 * (i 0).val + (i 1).val := rfl
    refine (shapeCast_apply _ _ _ (ix2 a ⟨flat i, hf⟩) ?_).trans ?_
    · rw [Shape.rowMajor_val_two, Shape.rowMajor_val_two]
      show a.val * 50176 + flat i = (o + (i 0).val) * 128 + (i 1).val
      omega
    · unfold pad
      rw [dif_pos (by
        intro b; match b with
        | 0 => exact ⟨Nat.zero_le _, Nat.mod_one _, by show (a.val - 0) / (0 + 1) < 3; have := a.isLt; omega⟩
        | 1 => exact ⟨Nat.zero_le _, Nat.mod_one _, by show (flat i - 0) / (0 + 1) < 50000; omega⟩)]
      refine transpose_apply _ _ _ _ _ fun b => ?_
      match b with
      | 0 => show a.val = (a.val - 0) / (0 + 1); omega
      | 1 => show flat i = (flat i - 0) / (0 + 1); omega
  exact Prod.ext (key 0 0 (by omega) rfl) (Prod.ext (key 1 392 (by omega) rfl) (key 2 784 (by omega) rfl))

/-- THE RESULTS ARE EQUAL. -/
theorem picks_eq (hX : Staged P X) (hs : S8192x128.Slices ![0, 0] S8192x3) :
    (extractStridedSlice S8192x3 ![0, 0] (allPicks X) hs : Vec Ideal S8192x3 .f32) = refRows P (refState P 8191).2.2 := by
  funext i
  obtain ⟨r, a, rfl⟩ : ∃ (r : Fin 8192) (a : Fin 3), i = ix2 r a := ⟨_, _, eq_ix2 i⟩
  obtain ⟨ℓ, hl, hp⟩ := (agree hX 8191 (by decide)).noted r (by have := r.isLt; omega)
  rw [refRows_apply P _ r ℓ hl a]
  have ha := a.isLt
  have hr : (0 + r.val) = r.val := Nat.zero_add _
  have e : (extractStridedSlice S8192x3 ![0, 0] (allPicks X) hs : Vec Ideal S8192x3 .f32) (ix2 r a)
      = outRow cols (stateV X r.val).1 (ix2 0 ⟨a.val, by omega⟩) := by
    show outRow cols (stateV X (0 + r.val)).1 _ = _
    rw [hr]
    refine congrArg (outRow cols (stateV X r.val).1) ?_
    funext b; match b with
    | 0 => rfl
    | 1 => exact Fin.ext (Nat.zero_add a.val)
  refine e.trans ((outRow_apply _ _).trans ?_)
  rw [hp]
  fin_cases a <;> rfl

end Cert.Proof

end
-- ==== Proof.lean ====
/-
  THE CLAIMS: the kernel's program, its idealization and the reference's idealization end with the argument unchanged and every
  counter at zero; the idealization keeps the kernel's operations; and on equal arguments the two idealizations end with equal
  results, whatever the points.
-/
module

public import proofs.«01_k».proof.Defs
public import proofs.«01_k».proof.Proof.RunKernel
public import proofs.«01_k».proof.Proof.RunKernelIdeal
public import proofs.«01_k».proof.Proof.RefRun
public import proofs.«01_k».proof.Proof.Match

@[expose] public section

noncomputable section

namespace Cert.Proof

open Idealize.ShloMosaic Idealize.SL.Sem

/-- On equal arguments the idealized kernel and the idealized reference end with equal results. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨fun c => Reference.refRows (Reference.given m' c) (Reference.refState (Reference.given m' c) 8191).2.2, ?_, Reference.run_value m' g'⟩
  refine (θ_run _ _ _).mono (fun r h c => ⟨(h c).1.trans ?_, (h c).2⟩) (KernelIdeal.run_value m g)
  refine picks_eq ?_ _
  rw [KernelIdeal.pts_eq]
  have e : Reference.given m' c = m ((c.tc : Thread Cert.KernelIdeal.nD Cert.KernelIdeal.τ).loc Cert.KernelIdeal.main_arg0) := hm c
  rw [e]
  exact staged _ _ _ _ _ _

theorem claim : Cert.Claim := ⟨Cert.Kernel.Gen.facts, Cert.KernelIdeal.Gen.facts, Cert.ReferenceIdeal.Gen.facts,
  fun m g _ => Kernel.quiescent m g, fun m g _ => KernelIdeal.quiescent m g, fun m g _ => Reference.quiescent m g, trivial, algebraic⟩

end Cert.Proof

end
